-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S2x1024x1024 : Shape := ⟨3, ![2, 1024, 1024]⟩
abbrev S1024x1024 : Shape := ⟨2, ![1024, 1024]⟩
abbrev S4x256x1024 : Shape := ⟨3, ![4, 256, 1024]⟩
abbrev S2x4 : Shape := ⟨2, ![2, 4]⟩
abbrev S4 : Shape := ⟨1, ![4]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x1 : Shape := ⟨2, ![1, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S1024x2048, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S2x1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_8 : BitVec 32 := 1#32
  let v19 : BitVec 32 := Scalar.muli v3 c1_i32_8
  let v20 : BitVec 32 := Scalar.addi c0_i32_9 v19
  v20.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_11 : BitVec 32 := 1#32
  let v21 : BitVec 32 := Scalar.muli v16 c1_i32_11
  let v22 : BitVec 32 := Scalar.addi c0_i32_12 v21
  v22.toNat
def k0_off1 (d0 : Dev nD) (c0_i32_14 : BitVec 32) : Fin 2 → Nat :=
  let c3_i32_6 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let v17 : BitVec 32 := Scalar.subi c3_i32_6 v16
  let c1024_i32 : BitVec 32 := 1024#32
  let v23 : BitVec 32 := Scalar.muli v17 c1024_i32
  let v24 : BitVec 32 := Scalar.addi v23 c0_i32_14
  let c0_i32_19 : BitVec 32 := 0#32
  ![v24.toNat, 0]
def k0_dev3 (d0 : Dev nD) : Nat :=
  let c0_i32_38 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_37 : BitVec 32 := 1#32
  let v43 : BitVec 32 := Scalar.muli v3 c1_i32_37
  let v44 : BitVec 32 := Scalar.addi c0_i32_38 v43
  v44.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_57 : BitVec 32 := 1#32
  let v61 : BitVec 32 := Scalar.muli v16 c1_i32_57
  let v62 : BitVec 32 := Scalar.addi c0_i32_58 v61
  v62.toNat
def k0_dev5 (d0 : Dev nD) : Nat :=
  let c0_i32_89 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_88 : BitVec 32 := 1#32
  let v91 : BitVec 32 := Scalar.muli v3 c1_i32_88
  let v92 : BitVec 32 := Scalar.addi c0_i32_89 v91
  v92.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_109 : BitVec 32 := 1#32
  let v109 : BitVec 32 := Scalar.muli v16 c1_i32_109
  let v110 : BitVec 32 := Scalar.addi c0_i32_110 v109
  v110.toNat
def k0_dev7 (d0 : Dev nD) : Nat :=
  let c0_i32_141 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_140 : BitVec 32 := 1#32
  let v139 : BitVec 32 := Scalar.muli v3 c1_i32_140
  let v140 : BitVec 32 := Scalar.addi c0_i32_141 v139
  v140.toNat
def k0_dev8 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_161 : BitVec 32 := 1#32
  let v157 : BitVec 32 := Scalar.muli v16 c1_i32_161
  let v158 : BitVec 32 := Scalar.addi c0_i32_162 v157
  v158.toNat
def k0_dev9 (d0 : Dev nD) : Nat :=
  let c0_i32_193 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_192 : BitVec 32 := 1#32
  let v187 : BitVec 32 := Scalar.muli v3 c1_i32_192
  let v188 : BitVec 32 := Scalar.addi c0_i32_193 v187
  v188.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_213 : BitVec 32 := 1#32
  let v205 : BitVec 32 := Scalar.muli v16 c1_i32_213
  let v206 : BitVec 32 := Scalar.addi c0_i32_214 v205
  v206.toNat
def k0_off2 (d0 : Dev nD) (c0_i32_220 : BitVec 32) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1024_i32_219 : BitVec 32 := 1024#32
  let v215 : BitVec 32 := Scalar.muli v3 c1024_i32_219
  let v216 : BitVec 32 := Scalar.addi v215 c0_i32_220
  let c0_i32_225 : BitVec 32 := 0#32
  ![v216.toNat, 0]
def k0_dev11 (d0 : Dev nD) : Nat :=
  let c0_i32_247 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_246 : BitVec 32 := 1#32
  let v235 : BitVec 32 := Scalar.muli v3 c1_i32_246
  let v236 : BitVec 32 := Scalar.addi c0_i32_247 v235
  v236.toNat
def k0_off3 (d0 : Dev nD) (c0_i32_261 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1024_i32_260 : BitVec 32 := 1024#32
  let v253 : BitVec 32 := Scalar.muli v16 c1024_i32_260
  let v254 : BitVec 32 := Scalar.addi v253 c0_i32_261
  let c0_i32_266 : BitVec 32 := 0#32
  ![v254.toNat, 0]
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_286 : BitVec 32 := 1#32
  let v273 : BitVec 32 := Scalar.muli v16 c1_i32_286
  let v274 : BitVec 32 := Scalar.addi c0_i32_287 v273
  v274.toNat
def k0_dev13 (d0 : Dev nD) : Nat :=
  let c0_i32_328 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_327 : BitVec 32 := 1#32
  let v311 : BitVec 32 := Scalar.muli v3 c1_i32_327
  let v312 : BitVec 32 := Scalar.addi c0_i32_328 v311
  v312.toNat
def k0_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_367 : BitVec 32 := 1#32
  let v349 : BitVec 32 := Scalar.muli v16 c1_i32_367
  let v350 : BitVec 32 := Scalar.addi c0_i32_368 v349
  v350.toNat
def k0_dev15 (d0 : Dev nD) : Nat :=
  let c0_i32_409 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_408 : BitVec 32 := 1#32
  let v387 : BitVec 32 := Scalar.muli v3 c1_i32_408
  let v388 : BitVec 32 := Scalar.addi c0_i32_409 v387
  v388.toNat
def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_449 : BitVec 32 := 1#32
  let v425 : BitVec 32 := Scalar.muli v16 c1_i32_449
  let v426 : BitVec 32 := Scalar.addi c0_i32_450 v425
  v426.toNat
def k0_dev17 (d0 : Dev nD) : Nat :=
  let c0_i32_491 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_490 : BitVec 32 := 1#32
  let v463 : BitVec 32 := Scalar.muli v3 c1_i32_490
  let v464 : BitVec 32 := Scalar.addi c0_i32_491 v463
  v464.toNat
def k0_dev18 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_531 : BitVec 32 := 1#32
  let v501 : BitVec 32 := Scalar.muli v16 c1_i32_531
  let v502 : BitVec 32 := Scalar.addi c0_i32_532 v501
  v502.toNat
def k0_dev19 (d0 : Dev nD) : Nat :=
  let c0_i32_578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_577 : BitVec 32 := 1#32
  let v540 : BitVec 32 := Scalar.muli v16 c1_i32_577
  let v541 : BitVec 32 := Scalar.addi c0_i32_578 v540
  v541.toNat
def k0_dev20 (d0 : Dev nD) : Nat :=
  let c0_i32_616 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_615 : BitVec 32 := 1#32
  let v569 : BitVec 32 := Scalar.muli v3 c1_i32_615
  let v570 : BitVec 32 := Scalar.addi c0_i32_616 v569
  v570.toNat
def k0_dev21 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_653 : BitVec 32 := 1#32
  let v598 : BitVec 32 := Scalar.muli v16 c1_i32_653
  let v599 : BitVec 32 := Scalar.addi c0_i32_654 v598
  v599.toNat
def k0_dev22 (d0 : Dev nD) : Nat :=
  let c0_i32_692 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_691 : BitVec 32 := 1#32
  let v627 : BitVec 32 := Scalar.muli v3 c1_i32_691
  let v628 : BitVec 32 := Scalar.addi c0_i32_692 v627
  v628.toNat
def k0_dev23 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_729 : BitVec 32 := 1#32
  let v656 : BitVec 32 := Scalar.muli v16 c1_i32_729
  let v657 : BitVec 32 := Scalar.addi c0_i32_730 v656
  v657.toNat
def k0_dev24 (d0 : Dev nD) : Nat :=
  let c0_i32_768 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_767 : BitVec 32 := 1#32
  let v685 : BitVec 32 := Scalar.muli v3 c1_i32_767
  let v686 : BitVec 32 := Scalar.addi c0_i32_768 v685
  v686.toNat
def k0_dev25 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_5 : BitVec 32 := 2#32
  let c2_i32 : BitVec 32 := 2#32
  let c0_i32 : BitVec 32 := 0#32
  let v5 : BitVec 1 := Scalar.cmpi .eq c2_i32 c0_i32
  let c1_i32_1 : BitVec 32 := 1#32
  let v6 : BitVec 32 := Scalar.select v5 c1_i32_1 c2_i32
  let v7 : BitVec 32 := Scalar.remsi v2 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v15 : BitVec 32 := Scalar.muli c2_i32_5 v14
  let v16 : BitVec 32 := Scalar.subi v4 v15
  let c1_i32_805 : BitVec 32 := 1#32
  let v714 : BitVec 32 := Scalar.muli v16 c1_i32_805
  let v715 : BitVec 32 := Scalar.addi c0_i32_806 v714
  v715.toNat
def k0_dev26 (d0 : Dev nD) : Nat :=
  let c0_i32_844 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_843 : BitVec 32 := 1#32
  let v743 : BitVec 32 := Scalar.muli v3 c1_i32_843
  let v744 : BitVec 32 := Scalar.addi c0_i32_844 v743
  v744.toNat
def k0_off4 (d0 : Dev nD) (c0_i32_850 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_849 : BitVec 32 := 1024#32
  let v751 : BitVec 32 := Scalar.muli v2 c1024_i32_849
  let v752 : BitVec 32 := Scalar.addi v751 c0_i32_850
  let c0_i32_855 : BitVec 32 := 0#32
  ![v752.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
# The kernel's program, written once at a symbolic segment

The generated function `cc0_body` is the unrolled text of the kernel: the same few steps for every segment `s` of a
chunk's rows and for either half `h` of the output's columns. Here each of these steps is a definition, with `s` and `h`
its arguments, and `body_eq` says that `cc0_body` on the launch's buffers is these steps in order.

The halves: `false` is columns 0 … 1023, `true` is columns 1024 … 2047. Half `h` first goes to the device `near h d`, and
its second sum to the device `near (!h) d`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

set_option maxRecDepth 65536

noncomputable section

namespace Cert.KernelIdeal.Dist

open Idealize.ShloMosaic Idealize.ShloMosaic.TcCoe Idealize.SL.Sem
open Cert.KernelIdeal Cert.KernelIdeal.Gen

variable {F : FTy → Type} [FloatOps F]

/-! ## The buffers -/

/-- The device's block of the left operand, -/
abbrev xM : Memref sig .tc .hbm S4096x1024 .f32 := Memref.whole main_arg0
/-- its block of the right operand, staged, -/
abbrev wM : Memref sig .tc .vmem S1024x2048 .f32 := win0_0.stage 0
/-- and its block of the result. -/
abbrev oM : Memref sig .tc .hbm S1024x2048 .f32 := Memref.whole main_v1
/-- The four landing places of the chunks of the left operand. -/
abbrev slotM : Memref sig .tc .vmem S4x256x1024 .f32 := Memref.whole cc0_scratch8

/-- The products of half `h`: plane 1 for the far device's chunk, plane 0 for the near one's (later the own one). -/
def prodM : Bool → Memref sig .tc .vmem S2x1024x1024 .f32
  | false => Memref.whole cc0_scratch0
  | true => Memref.whole cc0_scratch1

/-- Where the products of half `h` arrive. -/
def landM : Bool → Memref sig .tc .vmem S2x1024x1024 .f32
  | false => Memref.whole cc0_scratch2
  | true => Memref.whole cc0_scratch3

/-- The second sums of half `h`, then the result. -/
def sumM : Bool → Memref sig .tc .vmem S1024x1024 .f32
  | false => Memref.whole cc0_scratch4
  | true => Memref.whole cc0_scratch5

/-- Where the second sums of half `h` arrive. -/
def land2M : Bool → Memref sig .tc .vmem S1024x1024 .f32
  | false => Memref.whole cc0_scratch6
  | true => Memref.whole cc0_scratch7

/-! ## Their segments -/

theorem inb3 (j : Fin 2) (s : Fin 4) :
    ∀ a, (![j.val, 256 * s.val, 0] : Fin 3 → Nat) a + S1x256x1024.size a ≤ S2x1024x1024.size a := by
  revert j s; decide

theorem inb2 (s : Fin 4) : ∀ a, (![256 * s.val, 0] : Fin 2 → Nat) a + S256x1024.size a ≤ S1024x1024.size a := by
  revert s; decide

theorem inbSlot (k : Fin 4) :
    ∀ a, (![k.val, 0, 0] : Fin 3 → Nat) a + S1x256x1024.size a ≤ S4x256x1024.size a := by
  revert k; decide

theorem inbW (h : Bool) : ∀ a, (![0, 1024 * h.toNat] : Fin 2 → Nat) a + S1024x1024.size a ≤ S1024x2048.size a := by
  revert h; decide

theorem inbO (h : Bool) (s : Fin 4) :
    ∀ a, (![256 * s.val, 1024 * h.toNat] : Fin 2 → Nat) a + S256x1024.size a ≤ S1024x2048.size a := by
  revert h s; decide

/-- Rows `256 s …` of plane `j` of a buffer of two planes, -/
abbrev rect3 (j : Fin 2) (s : Fin 4) : Rect S2x1024x1024 :=
  Rect.unit (s := S2x1024x1024) ![j.val, 256 * s.val, 0] S1x256x1024.size (inb3 j s)

/-- of a buffer of one plane, -/
abbrev rect2 (s : Fin 4) : Rect S1024x1024 :=
  Rect.unit (s := S1024x1024) ![256 * s.val, 0] S256x1024.size (inb2 s)

/-- landing place `k`, -/
abbrev rectSlot (k : Fin 4) : Rect S4x256x1024 :=
  Rect.unit (s := S4x256x1024) ![k.val, 0, 0] S1x256x1024.size (inbSlot k)

/-- the columns of half `h` of the right operand, -/
abbrev rectW (h : Bool) : Rect S1024x2048 :=
  Rect.unit (s := S1024x2048) ![0, 1024 * h.toNat] S1024x1024.size (inbW h)

/-- and rows `256 s …` of half `h` of the result. -/
abbrev rectO (h : Bool) (s : Fin 4) : Rect S1024x2048 :=
  Rect.unit (s := S1024x2048) ![256 * s.val, 1024 * h.toNat] S256x1024.size (inbO h s)

/-- Segment `s` of plane `j` as a matrix, -/
abbrev seg3 (M : Memref sig .tc .vmem S2x1024x1024 .f32) (j : Fin 2) (s : Fin 4) :
    Memref sig .tc .vmem S256x1024 .f32 :=
  (M.slice (rect3 j s) (fun _ => rfl)).squeeze S256x1024 squeezes_S1x256x1024_S256x1024

/-- segment `s` of a buffer of one plane, -/
abbrev seg2 (M : Memref sig .tc .vmem S1024x1024 .f32) (s : Fin 4) : Memref sig .tc .vmem S256x1024 .f32 :=
  M.slice (rect2 s) (fun _ => rfl)

/-- landing place `k` as a matrix, -/
abbrev slot (k : Fin 4) : Memref sig .tc .vmem S256x1024 .f32 :=
  (slotM.slice (rectSlot k) (fun _ => rfl)).squeeze S256x1024 squeezes_S1x256x1024_S256x1024

/-- and segment `s` of half `h` of the result. -/
abbrev segO (h : Bool) (s : Fin 4) : Memref sig .tc .hbm S256x1024 .f32 :=
  oM.slice (rectO h s) (fun _ => rfl)

/-! ## The semaphores -/

/-- The send semaphore of segment `s` of plane `j` of the products of half `h`, -/
def semS1 (h : Bool) (j : Fin 2) (s : Fin 4) : DmaSem sig := ⟨1 + 8 * h.toNat + 4 * j.val + s.val, by
  revert h j s; decide⟩
/-- its receive semaphore; -/
def semR1 (h : Bool) (j : Fin 2) (s : Fin 4) : DmaSem sig := ⟨17 + 8 * h.toNat + 4 * j.val + s.val, by
  revert h j s; decide⟩
/-- the same two for the second sums; -/
def semS2 (h : Bool) (s : Fin 4) : DmaSem sig := ⟨33 + 4 * h.toNat + s.val, by revert h s; decide⟩
def semR2 (h : Bool) (s : Fin 4) : DmaSem sig := ⟨41 + 4 * h.toNat + s.val, by revert h s; decide⟩
/-- the semaphore of landing place `k`, -/
def semX (k : Fin 4) : DmaSem sig := ⟨49 + k.val, by revert k; decide⟩
/-- and that of the copy of segment `s` of half `h` to the result. -/
def semO (h : Bool) (s : Fin 4) : DmaSem sig := ⟨53 + 4 * h.toNat + s.val, by revert h s; decide⟩

/-! ## The devices -/

/-- The device half `h` of device `d`'s products goes to. -/
def near (h : Bool) (d : Dev nD) : Dev nD :=
  match h with
  | false => ⟨k0_dev1 d, k0_dev1_lt d⟩
  | true => ⟨k0_dev2 d, k0_dev2_lt d⟩

/-- Rows `256 s …` of the chunk of the device opposite `d`, -/
abbrev xFar (d : Dev nD) (s : Fin 4) : Memref sig .tc .hbm S256x1024 .f32 :=
  xM.slice (Rect.unit (s := S4096x1024) (k0_off1 d (BitVec.ofNat 32 (256 * s.val))) S256x1024.size (k0_off1_inb d s)) (fun _ => rfl)

/-- of the chunk of `near h d`, -/
def xNear (h : Bool) (d : Dev nD) (s : Fin 4) : Memref sig .tc .hbm S256x1024 .f32 :=
  match h with
  | false => xM.slice (Rect.unit (s := S4096x1024) (k0_off2 d (BitVec.ofNat 32 (256 * s.val))) S256x1024.size (k0_off2_inb d s)) (fun _ => rfl)
  | true => xM.slice (Rect.unit (s := S4096x1024) (k0_off3 d (BitVec.ofNat 32 (256 * s.val))) S256x1024.size (k0_off3_inb d s)) (fun _ => rfl)

/-- and of the device's own chunk. -/
abbrev xOwn (d : Dev nD) (s : Fin 4) : Memref sig .tc .hbm S256x1024 .f32 :=
  xM.slice (Rect.unit (s := S4096x1024) (k0_off4 d (BitVec.ofNat 32 (256 * s.val))) S256x1024.size (k0_off4_inb d s)) (fun _ => rfl)

/-- The landing place of segment `s` of a chunk: the first two, in turn, -/
def slotA (s : Fin 4) : Fin 4 := ⟨s.val % 2, by omega⟩
/-- and the last two for the chunk of `near true d`. -/
def slotN (h : Bool) (s : Fin 4) : Fin 4 := ⟨2 * h.toNat + s.val % 2, by revert h s; decide⟩

/-! ## The values -/

/-- A segment's product with half the right operand: what the kernel's matmul computes, -/
def dot (x : Vec F S256x1024 .f32) (w : Vec F S1024x1024 .f32) : Vec F S256x1024 .f32 :=
  matmul dot_S256x1024_S1024x1024_S256x1024_1_0_0_1_n_n none x w (constant S256x1024 .f32 0x00000000#32)

/-- from the landing place into a plane of the products, -/
def dot3 (x : Vec F S1x256x1024 .f32) (w : Vec F S1024x1024 .f32) : Vec F S1x256x1024 .f32 :=
  shapeCast S1x256x1024 (dot (shapeCast S256x1024 x shapeCasts_S1x256x1024_S256x1024)
    (shapeCast S1024x1024 w shapeCasts_S1024x1024_S1024x1024)) shapeCasts_S256x1024_S1x256x1024

/-- and into the sums. -/
def dot2 (x : Vec F S1x256x1024 .f32) (w : Vec F S1024x1024 .f32) : Vec F S256x1024 .f32 :=
  shapeCast S256x1024 (dot (shapeCast S256x1024 x shapeCasts_S1x256x1024_S256x1024)
    (shapeCast S1024x1024 w shapeCasts_S1024x1024_S1024x1024)) shapeCasts_S256x1024_S256x1024

/-- The second sum, -/
def add2 (a : Vec F S256x1024 .f32) (b : Vec F S1x256x1024 .f32) : Vec F S256x1024 .f32 :=
  shapeCast S256x1024 (addf a (shapeCast S256x1024 b shapeCasts_S1x256x1024_S256x1024)) shapeCasts_S256x1024_S256x1024

/-- and the last one with its rectifier. -/
def fin3 (a b : Vec F S1x256x1024 .f32) (d : Vec F S256x1024 .f32) : Vec F S256x1024 .f32 :=
  shapeCast S256x1024 (maximumf
    (addf (addf (shapeCast S256x1024 a shapeCasts_S1x256x1024_S256x1024)
      (shapeCast S256x1024 b shapeCasts_S1x256x1024_S256x1024)) d)
    (broadcast S256x1024 (Scalar.ofBits .f32 0x00000000#32))) shapeCasts_S256x1024_S256x1024

/-! ## The steps -/

/-- The kernel's programs. -/
abbrev KProg (F : FTy → Type) [FloatOps F] (α : Type) := Prog (TpuEff nD τ sig (Elt F) Λ₀ .tc) α

/-- Copy a chunk's segment to landing place `k` and wait for it. -/
def fetch (src : Memref sig .tc .hbm S256x1024 .f32) (k : Fin 4) : KProg F PUnit := do
  Prog.lift (.enqueueDma src (.here (slot k)) (.dma (semX k)) (View.wordExact_bits rfl) (View.wordExact_bits rfl) ⟨Or.inl rfl, trivial⟩)
  Prog.lift (.waitDma2 (semX k) src (slot k) (View.wordExact_bits rfl) (View.wordExact_bits rfl))

/-- Multiply landing place `k` by half `h` of the right operand into segment `s` of plane `j` of the products, -/
def mul3 (k : Fin 4) (h : Bool) (j : Fin 2) (s : Fin 4) : KProg F PUnit := do
  let x ← Prog.lift (.load slotM (rectSlot k).toLoadRect (View.loadsAt_vmem h_S1x256x1024))
  let w ← Prog.lift (.load wM (rectW h).toLoadRect (View.loadsAt_vmem h_S1024x1024))
  let _ ← Prog.lift (.load (prodM h) (rect3 j s).toLoadRect (View.loadsAt_vmem h_S1x256x1024))
  Prog.lift (.store (prodM h) (rect3 j s) (dot3 x w) Finset.univ (View.stores_vmem_bits_univ h_S1x256x1024 rfl) (.inl rfl))

/-- and into segment `s` of the second sums. -/
def mul2 (k : Fin 4) (h : Bool) (s : Fin 4) : KProg F PUnit := do
  let x ← Prog.lift (.load slotM (rectSlot k).toLoadRect (View.loadsAt_vmem h_S1x256x1024))
  let w ← Prog.lift (.load wM (rectW h).toLoadRect (View.loadsAt_vmem h_S1024x1024))
  let _ ← Prog.lift (.load (sumM h) (rect2 s).toLoadRect (View.loadsAt_vmem h_S256x1024))
  Prog.lift (.store (sumM h) (rect2 s) (dot2 x w) Finset.univ (View.stores_vmem_bits_univ h_S256x1024 rfl) (.inl rfl))

/-- Start a segment's copy to another device, -/
def send (dst : Dev nD) (src land : Memref sig .tc .vmem S256x1024 .f32) (sS sR : DmaSem sig) : KProg F PUnit :=
  Prog.lift (.enqueueDma src (.remote (Dev.tc dst) land (.dma sS)) (.dma sR) (View.wordExact_bits rfl) (View.wordExact_bits rfl) ⟨⟨rfl, Or.inl rfl⟩, trivial⟩)

/-- wait until it has been read at the sender, -/
def sent (src land : Memref sig .tc .vmem S256x1024 .f32) (sS : DmaSem sig) : KProg F PUnit :=
  Prog.lift (.waitDma2 sS land src (View.wordExact_bits rfl) (View.wordExact_bits rfl))

/-- and until it has arrived. -/
def landed (src land : Memref sig .tc .vmem S256x1024 .f32) (sR : DmaSem sig) : KProg F PUnit :=
  Prog.lift (.waitDma2 sR src land (View.wordExact_bits rfl) (View.wordExact_bits rfl))

/-- Segment `s` of plane `j` of the products of half `h` goes to the near device; -/
def send1 (d : Dev nD) (h : Bool) (j : Fin 2) (s : Fin 4) : KProg F PUnit :=
  send (near h d) (seg3 (prodM h) j s) (seg3 (landM h) j s) (semS1 h j s) (semR1 h j s)

/-- the second sum of half `h` to the other near device. -/
def send2 (d : Dev nD) (h : Bool) (s : Fin 4) : KProg F PUnit :=
  send (near (!h) d) (seg2 (sumM h) s) (seg2 (land2M h) s) (semS2 h s) (semR2 h s)

def sent1 (h : Bool) (j : Fin 2) (s : Fin 4) : KProg F PUnit :=
  sent (seg3 (prodM h) j s) (seg3 (landM h) j s) (semS1 h j s)
def landed1 (h : Bool) (j : Fin 2) (s : Fin 4) : KProg F PUnit :=
  landed (seg3 (prodM h) j s) (seg3 (landM h) j s) (semR1 h j s)
def sent2 (h : Bool) (s : Fin 4) : KProg F PUnit :=
  sent (seg2 (sumM h) s) (seg2 (land2M h) s) (semS2 h s)
def landed2 (h : Bool) (s : Fin 4) : KProg F PUnit :=
  landed (seg2 (sumM h) s) (seg2 (land2M h) s) (semR2 h s)

/-- Add what has arrived of the far chunk to the own product of the near one. -/
def addUp (h : Bool) (s : Fin 4) : KProg F PUnit := do
  let a ← Prog.lift (.load (sumM h) (rect2 s).toLoadRect (View.loadsAt_vmem h_S256x1024))
  let b ← Prog.lift (.load (landM h) (rect3 1 s).toLoadRect (View.loadsAt_vmem h_S1x256x1024))
  let _ ← Prog.lift (.load (sumM h) (rect2 s).toLoadRect (View.loadsAt_vmem h_S256x1024))
  Prog.lift (.store (sumM h) (rect2 s) (add2 a b) Finset.univ (View.stores_vmem_bits_univ h_S256x1024 rfl) (.inl rfl))

/-- The own product, the near device's and the other three's sum, rectified; -/
def finish (h : Bool) (s : Fin 4) : KProg F PUnit := do
  let a ← Prog.lift (.load (prodM h) (rect3 0 s).toLoadRect (View.loadsAt_vmem h_S1x256x1024))
  let b ← Prog.lift (.load (landM h) (rect3 0 s).toLoadRect (View.loadsAt_vmem h_S1x256x1024))
  let d ← Prog.lift (.load (land2M h) (rect2 s).toLoadRect (View.loadsAt_vmem h_S256x1024))
  let _ ← Prog.lift (.load (sumM h) (rect2 s).toLoadRect (View.loadsAt_vmem h_S256x1024))
  Prog.lift (.store (sumM h) (rect2 s) (fin3 a b d) Finset.univ (View.stores_vmem_bits_univ h_S256x1024 rfl) (.inl rfl))

/-- its copy to the result, -/
def copyOut (h : Bool) (s : Fin 4) : KProg F PUnit :=
  Prog.lift (.enqueueDma (seg2 (sumM h) s) (.here (segO h s)) (.dma (semO h s)) (View.wordExact_bits rfl) (View.wordExact_bits rfl) ⟨Or.inl rfl, trivial⟩)

/-- and the wait for it. -/
def copied (h : Bool) (s : Fin 4) : KProg F PUnit :=
  Prog.lift (.waitDma2 (semO h s) (seg2 (sumM h) s) (segO h s) (View.wordExact_bits rfl) (View.wordExact_bits rfl))

/-! ## The kernel -/

/-- The barrier: one unit to each near device, then two of the own. -/
def barrier (d : Dev nD) : KProg F PUnit := do
  semSignalWord (near false d) (sig.barrier 0 rfl) 1#32
  semSignalWord (near true d) (sig.barrier 0 rfl) 1#32
  semWaitWord (sig.barrier 0 rfl) 2#32

/-- The far chunk's products, each half on its way to the device that will pass its sum on, -/
def stepFar (d : Dev nD) (s : Fin 4) : KProg F PUnit := do
  fetch (xFar d s) (slotA s)
  mul3 (slotA s) false 1 s
  send1 d false 1 s
  mul3 (slotA s) true 1 s
  send1 d true 1 s

/-- the products of the chunk of `near h d`: half `h` on its way there, the other half kept for the second sum, -/
def stepNear (d : Dev nD) (h : Bool) (s : Fin 4) : KProg F PUnit := do
  fetch (xNear h d s) (slotN h s)
  mul3 (slotN h s) h 0 s
  send1 d h 0 s
  mul2 (slotN h s) (!h) s

/-- the second sums, -/
def stepSum (d : Dev nD) (h : Bool) (s : Fin 4) : KProg F PUnit := do
  sent1 h 1 s
  landed1 h 1 s
  addUp h s
  send2 d h s

/-- the own chunk's products, -/
def stepOwn (d : Dev nD) (s : Fin 4) : KProg F PUnit := do
  fetch (xOwn d s) (slotA s)
  sent1 false 0 s
  mul3 (slotA s) false 0 s
  sent1 true 0 s
  mul3 (slotA s) true 0 s

/-- and the result. -/
def stepOut (h : Bool) (s : Fin 4) : KProg F PUnit := do
  landed1 h 0 s
  sent2 h s
  landed2 h s
  finish h s
  copyOut h s

/-- A step at the four segments, in order. -/
def segs (f : Fin 4 → KProg F PUnit) : KProg F PUnit := do
  f 0
  f 1
  f 2
  f 3

/-- A step at both halves. -/
def both (f : Bool → KProg F PUnit) : KProg F PUnit := do
  f false
  f true

/-- The kernel on one device. -/
def body : KProg F PUnit := do
  let d ← Prog.lift .deviceId
  barrier d
  segs (stepFar d)
  segs fun s => both fun h => stepNear d h s
  segs fun s => both fun h => stepSum d h s
  segs (stepOwn d)
  segs fun s => both fun h => stepOut h s
  segs fun s => both fun h => copied h s

set_option maxHeartbeats 0 in
/-- The generated text of the kernel, on the launch's buffers, is that. -/
theorem body_eq :
    cc0_body (F := F) xM (Memref.isWhole_whole _) (win0_0.stage 0) (hstage0_0 0) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) cc0_scratch9 cc0_scratch10 cc0_scratch11 cc0_scratch12
      cc0_scratch13 cc0_scratch14 cc0_scratch15 cc0_scratch16 cc0_scratch17 cc0_scratch18 = body := by
  chain_rfl

end Cert.KernelIdeal.Dist
-- ==== Proof.Protocol.lean ====
/-
# The protocol

Device `d` has two near devices, `near false d` and `near true d`, and a far one; both `near` maps are their own inverse.
The protocol, per device `c`, in the order of its program (`s` is a segment of the rows, `h` a half of the columns):

* the barrier semaphore: `c` waits for two units, one from each near device. With its unit, `near h c` hands over those of
  its landing places that `c` will write;
* channel `(h, some 1, s)`: the far chunk's product, to `near h c`; channel `(h, some 0, s)`: the near chunk's product, to
  `near h c`; channel `(h, none, s)`: the second sum, to `near (!h) c`. The copy signals the send semaphore of `c`, with
  which the source comes back to `c`, and the receive semaphore of the other device, with which the landing place comes
  to that device, holding what was sent (`val`).

Every semaphore is signalled once in a run, so each has one round, round 0. A device may wait for a second sum only after
it has sent its own, and for a product only after it has sent its own, and for the barrier only after it has signalled:
these are the levels `lv`.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.MemrefSat

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-! ## The ghost state -/

/-- The protocol's rounds; -/
abbrev UB : Type := URounds (GSem nD τ sig) Bool
/-- all ghost state: the pipeline's rounds, the protocol's, the local copies'. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

abbrev 𝒱₀ : Variants := Variants.none

/-- A program of device `c` and what holds after it. -/
abbrev run (c : Dev nD) (p : KProg F PUnit) (Q : PUnit → sProp 𝕄) : sProp 𝕄 :=
  wp frame (wpE (defs₀ (F := F)) 𝒱₀ (c : Thread nD τ) none) Set.univ p Q

/-! ## The devices -/

/-- The device opposite. -/
def far (d : Dev nD) : Dev nD := near false (near true d)

theorem near_near (h : Bool) (d : Dev nD) : near h (near h d) = d := by revert h d; decide
theorem near_not_near (h : Bool) (d : Dev nD) : near (!h) (near h d) = far d := by revert h d; decide

/-- A device and its near one, as a permutation. -/
def nearE (h : Bool) : Dev nD ≃ Dev nD := ⟨near h, near h, near_near h, near_near h⟩

/-! ## The channels -/

/-- Half, plane of the products (`none`: the second sum), segment. -/
abbrev Ch : Type := Bool × Option (Fin 2) × Fin 4

def src : Ch → Memref sig .tc .vmem S256x1024 .f32
  | (h, some j, s) => seg3 (prodM h) j s
  | (h, none, s) => seg2 (sumM h) s
def dst : Ch → Memref sig .tc .vmem S256x1024 .f32
  | (h, some j, s) => seg3 (landM h) j s
  | (h, none, s) => seg2 (land2M h) s
def semS : Ch → DmaSem sig
  | (h, some j, s) => semS1 h j s
  | (h, none, s) => semS2 h s
def semR : Ch → DmaSem sig
  | (h, some j, s) => semR1 h j s
  | (h, none, s) => semR2 h s
/-- Which near device the channel leads to. -/
def dir : Ch → Bool
  | (h, some _, _) => h
  | (h, none, _) => !h
def peer (ch : Ch) (c : Dev nD) : Dev nD := near (dir ch) c

theorem peer_peer (ch : Ch) (c : Dev nD) : peer ch (peer ch c) = c := near_near _ _

/-- The channels that lead to `near h`. -/
def leads (h : Bool) : Option (Fin 2) × Fin 4 → Ch
  | (some j, s) => (h, some j, s)
  | (none, s) => (!h, none, s)

theorem dir_leads (h : Bool) (x : Option (Fin 2) × Fin 4) : dir (leads h x) = h := by
  obtain ⟨_ | j, s⟩ := x
  · exact Bool.not_not h
  · rfl
theorem peer_leads (h : Bool) (x : Option (Fin 2) × Fin 4) (c : Dev nD) : peer (leads h x) c = near h c := by
  unfold peer; rw [dir_leads]

/-- All channels, by where they lead. -/
def leadsE : Bool × (Option (Fin 2) × Fin 4) ≃ Ch where
  toFun p := leads p.1 p.2
  invFun ch := (dir ch, ch.2)
  left_inv p := by obtain ⟨h, _ | j, s⟩ := p <;> simp [leads, dir]
  right_inv ch := by obtain ⟨h, _ | j, s⟩ := ch <;> simp [leads, dir]

/-- The place of a channel's copy in the order of the program. -/
def rank : Ch → ℕ
  | (h, some j, s) => 2 * s.val + h.toNat + 8 * (1 - j.val)
  | (h, none, s) => 2 * s.val + h.toNat + 16

theorem rank_inj : Function.Injective rank := by decide +kernel
theorem rank_lt (ch : Ch) : rank ch < 24 := by revert ch; decide +kernel

/-! ## The semaphores -/

/-- `none`: the barrier's; `some (false, ch)`: the channel's send semaphore, `some (true, ch)`: its receive semaphore. -/
abbrev Cell : Type := Option (Bool × Ch)

abbrev barS : Sem sig := sig.barrier 0 rfl

def csem : Cell → SemLoc sig
  | none => .reg barS
  | some (false, ch) => .dma (semS ch)
  | some (true, ch) => .dma (semR ch)

/-- The number of a cell's semaphore. -/
def num : Cell → ℕ
  | none => 0
  | some (false, (h, some j, s)) => 1 + 8 * h.toNat + 4 * j.val + s.val
  | some (true, (h, some j, s)) => 17 + 8 * h.toNat + 4 * j.val + s.val
  | some (false, (h, none, s)) => 33 + 4 * h.toNat + s.val
  | some (true, (h, none, s)) => 41 + 4 * h.toNat + s.val

theorem num_inj : Function.Injective num := by
  rintro (_ | ⟨_ | _, _ | _, _ | ⟨j, hj⟩, ⟨s, hs⟩⟩) (_ | ⟨_ | _, _ | _, _ | ⟨j', hj'⟩, ⟨s', hs'⟩⟩) h <;>
    simp only [num, Bool.toNat_false, Bool.toNat_true] at h <;>
    first
      | rfl
      | (exfalso; omega)
      | (have h1 : s = s' := by omega
         subst h1
         first
           | rfl
           | (have h2 : j = j' := by omega
              subst h2; rfl))

def semNum : SemLoc sig → ℕ
  | .dma q => q.val
  | .reg _ => 0

theorem semNum_csem (k : Cell) : semNum (csem k) = num k := by
  obtain _ | ⟨_ | _, h, _ | j, s⟩ := k <;> rfl

theorem csem_inj : Function.Injective csem := fun a b h =>
  num_inj (by rw [← semNum_csem, ← semNum_csem, h])

open Classical in
/-- The cell of a semaphore. -/
def dec (sm : SemLoc sig) : Option Cell := if h : ∃ k, csem k = sm then some h.choose else none

theorem dec_csem (k : Cell) : dec (csem k) = some k := by
  have h : ∃ k', csem k' = csem k := ⟨k, rfl⟩
  unfold dec; rw [dif_pos h]; exact congrArg some (csem_inj h.choose_spec)

theorem dec_eq {sm : SemLoc sig} {k : Cell} (h : dec sm = some k) : csem k = sm := by
  unfold dec at h
  split at h
  · next hk => rw [← Option.some.inj h]; exact hk.choose_spec
  · exact absurd h (by simp)

/-- Cell `k` of device `c`. -/
abbrev kcell (p : Dev nD × Cell) : GSem nD τ sig := ((p.1 : Thread nD τ), csem p.2)
abbrev barCell (c : Dev nD) : GSem nD τ sig := ((c : Thread nD τ), .reg barS)
abbrev sendCell (c : Dev nD) (ch : Ch) : GSem nD τ sig := ((c : Thread nD τ), .dma (semS ch))
abbrev recvCell (c : Dev nD) (ch : Ch) : GSem nD τ sig := ((c : Thread nD τ), .dma (semR ch))

theorem kcell_inj : Function.Injective kcell := by
  rintro ⟨c, k⟩ ⟨c', k'⟩ h
  have h1 : (c : Thread nD τ) = (c' : Thread nD τ) := congrArg Prod.fst h
  have h2 : csem k = csem k' := congrArg Prod.snd h
  exact Prod.ext (congrArg (fun t : Thread nD τ => t.1) h1) (csem_inj h2)

/-- What a copy of a segment signals. -/
abbrev N : ℕ := (seg2 (land2M false) 0).view.dmaCredit
theorem N_pos : 0 < N := View.dmaCredit_pos _ (by decide)

theorem credit_dst (ch : Ch) : (dst ch).view.dmaCredit = N := by
  obtain ⟨_ | _, _ | j, s⟩ := ch <;> rfl
theorem credit_src (ch : Ch) : (src ch).view.dmaCredit = N := by
  obtain ⟨_ | _, _ | j, s⟩ := ch <;> rfl

/-! ## The contents -/

variable (m : (ℓ : Loc nD τ sig) → Buf (Elt F) ℓ)

/-- Segment `s` of chunk `r` of device `c`'s block of the left operand. -/
def chunk (c r : Dev nD) (s : Fin 4) : Vec F S256x1024 .f32 :=
  (xOwn r s).view.read (Elt F) (m ((c : Thread nD τ).loc main_arg0))

/-- Device `c`'s block of the right operand, staged; -/
def wstg (c : Dev nD) : Vec F S1024x2048 .f32 :=
  (win0_0.blk (0 : Fin 1)).view.read (Elt F) (m ((c : Thread nD τ).loc main_arg1))
/-- half `h` of it. -/
def wHalf (c : Dev nD) (h : Bool) : Vec F S1024x1024 .f32 := fun j => wstg m c ((rectW h).emb j)

/-- Device `c`'s product for segment `s` of chunk `r`, half `h`. -/
def part (c r : Dev nD) (h : Bool) (s : Fin 4) : Vec F S256x1024 .f32 := dot (chunk m c r s) (wHalf m c h)

/-- What device `c` sends first of half `h`: a far product; -/
def valFar (c : Dev nD) (h : Bool) (s : Fin 4) : Vec F S256x1024 .f32 := part m c (far c) h s

/-- What device `c` sends over a channel. -/
def val (c : Dev nD) : Ch → Vec F S256x1024 .f32
  | (h, some ⟨0, _⟩, s) => part m c (near h c) h s
  | (h, some ⟨_ + 1, _⟩, s) => valFar m c h s
  | (h, none, s) => addf (part m c (near (!h) c) h s) (valFar m (near h c) h s)

/-- Segment `s` of half `h` of device `c`'s result. -/
def fin (c : Dev nD) (h : Bool) (s : Fin 4) : Vec F S256x1024 .f32 :=
  maximumf (addf (addf (part m c c h s) (val m (near h c) (h, some 0, s))) (val m (near (!h) c) (h, none, s)))
    (broadcast S256x1024 (Scalar.ofBits .f32 0x00000000#32))

/-! ## The schedule -/

/-- A buffer of device `c`, at any contents. -/
def anyAt (c : Dev nD) {sp : Space} {sh : Shape} {e : EltTy} (M : Memref sig .tc sp sh e) : sProp 𝕄 :=
  iprop(∃ X, owns (c : Thread nD τ) M fullShare X)
/-- At given contents. -/
abbrev at' (c : Dev nD) {sp : Space} {sh : Shape} {e : EltTy} (M : Memref sig .tc sp sh e) (X : sh.Idx → Elt F e) : sProp 𝕄 :=
  owns (c : Thread nD τ) M fullShare X

omit [FloatOps F] in
instance anyAt_storable (c : Dev nD) {sp : Space} {sh : Shape} {e : EltTy} (M : Memref sig .tc sp sh e) :
    BI.Storable (upEmb : UEmb _ 𝕄) (anyAt (F := F) c M) := by unfold anyAt; infer_instance

/-- With its unit, `near h c` hands `c` the landing places `c` will write there. -/
def barPay (c : Dev nD) (h : Bool) : sProp 𝕄 :=
  bigSep Finset.univ fun x : Option (Fin 2) × Fin 4 => anyAt (near h c) (dst (leads h x))
def sendPay (c : Dev nD) (ch : Ch) : sProp 𝕄 := at' c (src ch) (val m c ch)
def recvPay (c : Dev nD) (ch : Ch) : sProp 𝕄 := at' c (dst ch) (val m (peer ch c) ch)

def cellPay (c : Dev nD) : Option Cell → Bool → sProp 𝕄
  | some none, d => barPay c d
  | some (some (false, ch)), _ => sendPay m c ch
  | some (some (true, ch)), _ => recvPay m c ch
  | none, _ => iprop(emp)

def cellDuties : Option Cell → Finset Bool
  | some none => Finset.univ
  | some (some _) => {false}
  | none => ∅

def cellAmount : Option Cell → ℕ
  | some (some _) => N
  | _ => 1

instance cellPay_storable (c : Dev nD) (k : Option Cell) (d : Bool) :
    BI.Storable (upEmb : UEmb _ 𝕄) (cellPay m c k d) := by
  obtain _ | _ | ⟨_ | _, ch⟩ := k
  · show BI.Storable upEmb (iprop(emp) : sProp 𝕄); infer_instance
  · show BI.Storable upEmb (barPay c d); unfold barPay; infer_instance
  · show BI.Storable upEmb (sendPay m c ch); unfold sendPay; infer_instance
  · show BI.Storable upEmb (recvPay m c ch); unfold recvPay; infer_instance

/-- One round, round 0, on every cell. -/
def Rd : Rounds.Schedule (GSem nD τ sig) Bool 𝕄 where
  duties g r := if r = 0 ∧ g.1.2 = .tc then cellDuties (dec g.2) else ∅
  unitless _ := False
  amount g _ _ := cellAmount (dec g.2)
  payload g _ d := cellPay m g.1.1 (dec g.2) d
  amount_pos g _ _ _ := by
    obtain _ | _ | _ := dec g.2
    · exact Nat.one_pos
    · exact Nat.one_pos
    · exact N_pos

instance Rd_payload_storable (g : GSem nD τ sig) (r : ℕ) (d : Bool) :
    BI.Storable (upEmb : UEmb _ 𝕄) ((Rd m).payload g r d) := cellPay_storable m g.1.1 (dec g.2) d

theorem duties_kcell (c : Dev nD) (k : Cell) : (Rd m).duties (kcell (c, k)) 0 = cellDuties (some k) := by
  dsimp only [Rd]; rw [if_pos ⟨rfl, rfl⟩, dec_csem]
theorem duties_later (g : GSem nD τ sig) : ∀ r, 1 ≤ r → (Rd m).duties g r = ∅ :=
  fun r hr => if_neg fun h => by omega
theorem amount_kcell (c : Dev nD) (k : Cell) (d : Bool) : (Rd m).amount (kcell (c, k)) 0 d = cellAmount (some k) := by
  show cellAmount (dec (csem k)) = _; rw [dec_csem]
theorem payload_kcell (c : Dev nD) (k : Cell) (d : Bool) : (Rd m).payload (kcell (c, k)) 0 d = cellPay m c (some k) d := by
  show cellPay m c (dec (csem k)) d = _; rw [dec_csem]

theorem duty_bar (c : Dev nD) (d : Bool) : d ∈ (Rd m).duties (barCell c) 0 := by
  rw [show (Rd m).duties (barCell c) 0 = Finset.univ from duties_kcell m c none]; exact Finset.mem_univ d
theorem duty_send (c : Dev nD) (ch : Ch) : false ∈ (Rd m).duties (sendCell c ch) 0 := by
  rw [show (Rd m).duties (sendCell c ch) 0 = {false} from duties_kcell m c (some (false, ch))]; exact Finset.mem_singleton_self _
theorem duty_recv (c : Dev nD) (ch : Ch) : false ∈ (Rd m).duties (recvCell c ch) 0 := by
  rw [show (Rd m).duties (recvCell c ch) 0 = {false} from duties_kcell m c (some (true, ch))]; exact Finset.mem_singleton_self _
theorem amount_send (c : Dev nD) (ch : Ch) (d : Bool) : (Rd m).amount (sendCell c ch) 0 d = N :=
  amount_kcell m c (some (false, ch)) d
theorem amount_recv (c : Dev nD) (ch : Ch) (d : Bool) : (Rd m).amount (recvCell c ch) 0 d = N :=
  amount_kcell m c (some (true, ch)) d
theorem payload_bar (c : Dev nD) (d : Bool) : (Rd m).payload (barCell c) 0 d = barPay c d := payload_kcell m c none d
theorem payload_send (c : Dev nD) (ch : Ch) (d : Bool) : (Rd m).payload (sendCell c ch) 0 d = sendPay m c ch :=
  payload_kcell m c (some (false, ch)) d
theorem payload_recv (c : Dev nD) (ch : Ch) (d : Bool) : (Rd m).payload (recvCell c ch) 0 d = recvPay m c ch :=
  payload_kcell m c (some (true, ch)) d

theorem expect_bar (c : Dev nD) : (Rd m).expect (barCell c) 0 = 2 := by
  unfold Schedule.expect Schedule.amountOf
  rw [show barCell c = kcell (c, none) from rfl, duties_kcell, Finset.sum_congr rfl fun d _ => amount_kcell m c none d]
  rfl
theorem expect_chan (c : Dev nD) (x : Bool × Ch) : (Rd m).expect (kcell (c, some x)) 0 = N := by
  unfold Schedule.expect Schedule.amountOf
  rw [duties_kcell, Finset.sum_congr rfl fun d _ => amount_kcell m c (some x) d]
  exact Finset.sum_singleton _ _

/-- What a wait takes of its round. -/
theorem rest_bar (c : Dev nD) :
    bigSep ((Rd m).duties (barCell c) 0 \ ∅) (fun d => (Rd m).payload (barCell c) 0 d)
      = iprop(barPay c false ∗ barPay c true) := by
  rw [show (Rd m).duties (barCell c) 0 = Finset.univ from duties_kcell m c none, Finset.sdiff_empty,
    bigSep_congr fun d _ => payload_bar m c d, bigSep_univ_eq_bigSepL [false, true] (by decide) (by decide)]
  rfl
theorem rest_chan (c : Dev nD) (x : Bool × Ch) :
    bigSep ((Rd m).duties (kcell (c, some x)) 0 \ ∅) (fun d => (Rd m).payload (kcell (c, some x)) 0 d)
      = cellPay m c (some (some x)) false := by
  rw [duties_kcell, Finset.sdiff_empty, bigSep_congr fun d _ => payload_kcell m c (some x) d]
  exact bigSep_singleton

/-! ## What a device owes, and the levels -/

/-- The receive credits of the copies `n, n + 1, …` of device `c`. -/
def owedFrom (c : Dev nD) (n : ℕ) : CellTallies nD τ sig Unit :=
  ∑ ch ∈ Finset.univ.filter (fun ch => n ≤ rank ch), tallyAt (recvCell (peer ch c) ch) () N

theorem owedFrom_rank (c : Dev nD) (ch : Ch) :
    owedFrom c (rank ch) = owedFrom c (rank ch + 1) + tallyAt (recvCell (peer ch c) ch) () N := by
  unfold owedFrom
  rw [show (Finset.univ.filter fun ch' => rank ch ≤ rank ch')
      = insert ch (Finset.univ.filter fun ch' => rank ch + 1 ≤ rank ch') from by
    ext x
    simp only [Finset.mem_filter, Finset.mem_univ, true_and, Finset.mem_insert]
    constructor
    · intro h
      by_cases e : rank x = rank ch
      · exact .inl (rank_inj e)
      · exact .inr (by omega)
    · rintro (rfl | h) <;> omega,
    Finset.sum_insert (by simp), add_comm]

theorem owedFrom_end (c : Dev nD) : owedFrom c 24 = 0 := by
  unfold owedFrom
  exact Finset.sum_eq_zero fun ch h => absurd (Finset.mem_filter.mp h).2 (by have := rank_lt ch; omega)

theorem owedFrom_pos {c : Dev nD} {n : ℕ} {g : GSem nD τ sig} {u : Unit} (h : 0 < owedFrom c n g u) :
    ∃ ch, n ≤ rank ch ∧ g = recvCell (peer ch c) ch := by
  unfold owedFrom at h
  rw [Finset.sum_apply, Finsupp.finsetSum_apply] at h
  obtain ⟨ch, hch, hp⟩ := Finset.exists_ne_zero_of_sum_ne_zero (Nat.pos_iff_ne_zero.mp h)
  refine ⟨ch, (Finset.mem_filter.mp hch).2, ?_⟩
  rw [tallyAt_apply] at hp
  by_contra hn
  rw [if_neg fun h' => hn h'.1] at hp
  exact hp rfl

/-- At launch: those credits and a unit for each near device's barrier. -/
def O₀ (c : Dev nD) : CellTallies nD τ sig Unit :=
  owedFrom c 0 + tallyAt (barCell (near true c)) () 1 + tallyAt (barCell (near false c)) () 1

def L (g : GSem nD τ sig) : Finset Unit := if g.1.2 = .tc then {()} else ∅
def cellLv : Option Cell → ℕ
  | some none => 1
  | some (some (true, (_, some _, _))) => 2
  | some (some (true, (_, none, _))) => 3
  | _ => 0
def lv (g : GSem nD τ sig) (_ : Unit) : ℕ := cellLv (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cell) : lv (kcell (c, k)) () = cellLv (some k) := by
  show cellLv (dec (csem k)) = _; rw [dec_csem]

theorem recv_lv (ch : Ch) : 2 ≤ cellLv (some (some (true, ch))) ∧ (16 ≤ rank ch → cellLv (some (some (true, ch))) = 3) := by
  revert ch; decide +kernel

/-- A wait at a level below that of everything still to be sent. -/
theorem mayWait_owed (c : Dev nD) (sm : SemLoc sig) (n : ℕ) (b : ℕ) (hb : lv ((c : Thread nD τ), sm) () ≤ b)
    (hn : ∀ ch, n ≤ rank ch → b < cellLv (some (some (true, ch)))) :
    (levAts L lv : sProp 𝕄) ⊢ MayWait (c : Thread nD τ) sm () (owedFrom c n) :=
  MayOwe.of_cut (L := L) (lev := lv) b (fun p hp => by rw [Finset.mem_singleton.mp hp, L_tc]; exact Finset.mem_singleton_self _)
    (fun g u hg => by obtain ⟨ch, -, rfl⟩ := owedFrom_pos hg; exact Finset.mem_singleton_self _)
    (fun p hp => by rw [Finset.mem_singleton.mp hp]; exact hb)
    (fun g u hg => by
      obtain ⟨ch, hr, rfl⟩ := owedFrom_pos hg
      rw [show recvCell (peer ch c) ch = kcell (peer ch c, some (true, ch)) from rfl, lv_kcell]
      exact hn ch hr)

theorem O₀_pos {c : Dev nD} {g : GSem nD τ sig} {u : Unit} (h : 0 < O₀ c g u) :
    (∃ d, g = barCell d) ∨ ∃ d ch, g = recvCell d ch := by
  unfold O₀ at h
  rw [Pi.add_apply, Finsupp.add_apply, Pi.add_apply, Finsupp.add_apply, tallyAt_apply, tallyAt_apply] at h
  by_contra hn
  rw [not_or] at hn
  rw [if_neg (fun h' => hn.1 ⟨_, h'.1⟩), if_neg (fun h' => hn.1 ⟨_, h'.1⟩)] at h
  rw [add_zero, add_zero] at h
  obtain ⟨ch, -, hg⟩ := owedFrom_pos h
  exact hn.2 ⟨_, _, hg⟩

end Cert.KernelIdeal.Dist
-- ==== Proof.Owned.lean ====
/-
# Loads, stores and local copies of owned buffers

The library's rules for a load, a store and a local copy, stated for a device that owns the buffer it names.
-/
module

public import proofs.«01_k».proof.Proof.Protocol

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable {sp : Space} {S t : Shape} {e : EltTy}

omit [FloatOps F] in
/-- A buffer read at another shape is the buffer, at the contents read at the old one. -/
theorem owns_squeeze (c : Dev nD) (M : Memref sig .tc sp S e) (h : S.Squeezes t) (q : PosShare TreeShare) (X : S.Idx → Elt F e) :
    (owns (c : Thread nD τ) (M.squeeze t h) q (fun i => X (Shape.reshapeEquiv h.numel_eq i)) : sProp 𝕄)
      = owns (c : Thread nD τ) M q X := by
  unfold owns
  have hs : (M.squeeze t h).view.set = M.view.set := View.set_reshape _ _
  have hr : ∀ f, (M.squeeze t h).view.read (Elt F) f = (fun i => X (Shape.reshapeEquiv h.numel_eq i)) ↔ M.view.read (Elt F) f = X := fun f => by
    constructor
    · intro e'
      funext i
      have := congrFun e' ((Shape.reshapeEquiv h.numel_eq).symm i)
      rw [Equiv.apply_symm_apply] at this
      rw [← this]
      show _ = M.view.read (Elt F) f (Shape.reshapeEquiv h.numel_eq ((Shape.reshapeEquiv h.numel_eq).symm i))
      rw [Equiv.apply_symm_apply]
    · intro e'
      rw [← e']; rfl
  rw [hs]
  exact congrArg _ (funext fun f => by rw [show _ = _ from propext (hr f)])

/-- A load of a slice that is owned; -/
theorem load_slice (c : Dev nD) {M : Memref sig .tc .vmem S e} {r : Rect S} {hr : ∀ a, r.stride a = 1} {hl : M.view.LoadsAt r}
    {q : PosShare TreeShare} {Y : r.shape.Idx → Elt F e} {k : (r.shape.Idx → Elt F e) → KProg F PUnit} {Q : PUnit → sProp 𝕄} :
    owns (c : Thread nD τ) (M.slice r hr) q Y
      ⊢ iprop((owns (c : Thread nD τ) (M.slice r hr) q Y -∗ run c (k Y) Q) -∗ run c (.op (.load M r hl) k) Q) := by
  unfold owns
  iintro ⟨%f, %hf, H⟩ Hk
  iapply (wp_load_rect (m := M) (r := r) 𝒱₀ (c : Thread nD τ) none Set.univ (S := (M.slice r hr).view.set) (q := q) (f := f)
    (Finset.Subset.refl _)) $$ H
  iintro H
  rw [show (M.access r).read (Elt F) f = Y from hf]
  iapply Hk
  iexists f
  isplitr
  · ipureintro; exact hf
  · iexact H

/-- of part of a buffer that is owned; -/
theorem load_part (c : Dev nD) {M : Memref sig .tc .vmem S e} {r : Rect S} {hl : M.view.LoadsAt r}
    {q : PosShare TreeShare} {X : S.Idx → Elt F e} {k : (r.shape.Idx → Elt F e) → KProg F PUnit} {Q : PUnit → sProp 𝕄} :
    owns (c : Thread nD τ) M q X
      ⊢ iprop((owns (c : Thread nD τ) M q X -∗ run c (k fun j => X (r.emb j)) Q) -∗ run c (.op (.load M r hl) k) Q) := by
  unfold owns
  iintro ⟨%f, %hf, H⟩ Hk
  iapply (wp_load_rect (m := M) (r := r) 𝒱₀ (c : Thread nD τ) none Set.univ (S := M.view.set) (q := q) (f := f)
    (by rw [View.set_slice]; exact Finset.map_subset_map.mpr (Finset.subset_univ _))) $$ H
  iintro H
  rw [show (M.access r).read (Elt F) f = fun j => X (r.emb j) from by rw [← hf]; rfl]
  iapply Hk
  iexists f
  isplitr
  · ipureintro; exact hf
  · iexact H

/-- a store over a slice that is owned. -/
theorem store_slice (c : Dev nD) {M : Memref sig .tc .vmem S e} {r : Rect S} {hr : ∀ a, r.stride a = 1} {w : r.shape.Idx → Elt F e}
    {hx : (M.access r).Stores Finset.univ} {hm : (Finset.univ : Finset r.shape.Idx) = Finset.univ ∨ ∀ a, r.stride a = 1}
    {k : PUnit → KProg F PUnit} {Q : PUnit → sProp 𝕄} :
    anyAt c (M.slice r hr)
      ⊢ iprop((at' c (M.slice r hr) w -∗ run c (k ⟨⟩) Q) -∗ run c (.op (.store M r w Finset.univ hx hm) k) Q) := by
  unfold anyAt at' owns
  iintro ⟨%Y, %f, -, H⟩ Hk
  iapply (wp_store (m := M) (r := r) (w := w) (Mk := Finset.univ) 𝒱₀ (c : Thread nD τ) none Set.univ (S := (M.slice r hr).view.set) (f := f)
    (Finset.Subset.refl _)) $$ H
  iintro H
  iapply Hk
  iexists ((M.access r).write (Elt F) f w Finset.univ)
  isplitr
  · ipureintro; exact View.read_write_univ _ _
  · iexact H

variable {r : Rect S}

/-- The same of a slice with its axis of length one left out. -/
theorem load_squeezed (c : Dev nD) {M : Memref sig .tc .vmem S e} {hr : ∀ a, r.stride a = 1} {h : r.shape.Squeezes t} {hl : M.view.LoadsAt r}
    {q : PosShare TreeShare} {X : t.Idx → Elt F e} {k : (r.shape.Idx → Elt F e) → KProg F PUnit} {Q : PUnit → sProp 𝕄} :
    owns (c : Thread nD τ) ((M.slice r hr).squeeze t h) q X
      ⊢ iprop((owns (c : Thread nD τ) ((M.slice r hr).squeeze t h) q X -∗ run c (k fun i => X ((Shape.reshapeEquiv h.numel_eq).symm i)) Q)
          -∗ run c (.op (.load M r hl) k) Q) := by
  have e' : (owns (c : Thread nD τ) ((M.slice r hr).squeeze t h) q X : sProp 𝕄)
      = owns (c : Thread nD τ) (M.slice r hr) q (fun i => X ((Shape.reshapeEquiv h.numel_eq).symm i)) := by
    rw [← owns_squeeze c (M.slice r hr) h]
    simp only [Equiv.symm_apply_apply]
  rw [e']
  exact load_slice c

theorem any_squeezed (c : Dev nD) {M : Memref sig .tc .vmem S e} {hr : ∀ a, r.stride a = 1} {h : r.shape.Squeezes t} :
    (anyAt c ((M.slice r hr).squeeze t h) : sProp 𝕄) ⊢ anyAt c (M.slice r hr) := by
  unfold anyAt
  iintro ⟨%X, H⟩
  iexists (fun i => X ((Shape.reshapeEquiv h.numel_eq).symm i))
  iapply (Entails.of_eq (owns_squeeze c (M.slice r hr) h fullShare (fun i => X ((Shape.reshapeEquiv h.numel_eq).symm i)))) $$ [H]
  simp only [Equiv.symm_apply_apply]
  iexact H

theorem store_squeezed (c : Dev nD) {M : Memref sig .tc .vmem S e} {hr : ∀ a, r.stride a = 1} {h : r.shape.Squeezes t} {w : r.shape.Idx → Elt F e}
    {hx : (M.access r).Stores Finset.univ} {hm : (Finset.univ : Finset r.shape.Idx) = Finset.univ ∨ ∀ a, r.stride a = 1}
    {k : PUnit → KProg F PUnit} {Q : PUnit → sProp 𝕄} :
    anyAt c ((M.slice r hr).squeeze t h)
      ⊢ iprop((at' c ((M.slice r hr).squeeze t h) (fun i => w (Shape.reshapeEquiv h.numel_eq i)) -∗ run c (k ⟨⟩) Q)
          -∗ run c (.op (.store M r w Finset.univ hx hm) k) Q) := by
  rw [show (at' c ((M.slice r hr).squeeze t h) (fun i => w (Shape.reshapeEquiv h.numel_eq i)) : sProp 𝕄) = at' c (M.slice r hr) w from
    owns_squeeze c (M.slice r hr) h fullShare w]
  exact (any_squeezed c).trans (store_slice c)

/-! ## Local copies -/

/-- A copy on the device itself, started with the source's elements, the owned destination and the semaphore at zero; -/
theorem copy_start (c : Dev nD) {sp₁ sp₂ : Space} {A : Memref sig .tc sp₁ S e} {B : Memref sig .tc sp₂ S e} {sm : DmaSem sig}
    {hA : A.view.WordExact} {hB : B.view.WordExact} {ht : DmaTarget.Typed (nD := nD) (τ := τ) (p := .tc) sp₁ (.dma sm) (.here B)}
    {k : PUnit → KProg F PUnit} {Q : PUnit → sProp 𝕄} {q : PosShare TreeShare} {f : Buf (Elt F) (A.view.loc (c : Thread nD τ))}
    (n : ℕ) (hn : B.view.dmaCredit = n) (h0 : 0 < n) :
    iprop((A.view.loc (c : Thread nD τ) ↦[A.view.set]{q} f) ∗ anyAt c B ∗ semVal ((c : Thread nD τ), .dma sm) 0)
      ⊢ iprop((Flight EC (c : Thread nD τ) (.dma sm) () n
            iprop(at' c B (A.view.read (Elt F) f) ∗ (A.view.loc (c : Thread nD τ) ↦[A.view.set]{q} f)) -∗ run c (k ⟨⟩) Q)
          -∗ run c (.op (.enqueueDma A (.here B) (.dma sm) hA hB ht) k) Q) := by
  unfold anyAt at' owns
  iintro ⟨HA, ⟨%Y, %g, -, HB⟩, Hs⟩ Hk
  iapply (wp_dmaLocal EC 𝒱₀ (c : Thread nD τ) none () n (by rw [← hn]) h0 (Finset.Subset.refl _)) $$ [HA HB Hs]
  · isplitl [HA]; · iexact HA
    isplitl [HB]; · iexact HB
    iexact Hs
  iintro HF
  iapply Hk
  iapply (Flight_mono EC (c : Thread nD τ) ?h) $$ HF
  iintro ⟨HB, HA⟩
  isplitl [HB]
  · iexists (B.view.write (Elt F) g (A.view.read (Elt F) f) Finset.univ)
    isplitr
    · ipureintro; exact View.read_write_univ _ _
    · iexact HB
  · iexact HA

end Cert.KernelIdeal.Dist
-- ==== Proof.Moves.lean ====
/-
# The kernel's moves

One rule for each of the program's moves: the barrier, a segment's way to another device, the copies on the device itself
and the arithmetic.
-/
module

public import proofs.«01_k».proof.Proof.Owned

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## What every device knows -/

/-- Every cell's invariant, under the name `K` gives it, and that the cell has reached round 0; and the levels. -/
def ctx : sProp 𝕄 :=
  iprop((bigSep Finset.univ fun p : Dev nD × Cell => iprop(cellInv ER (Rd m) (K p) (kcell p) ∗ reached ER (kcell p) 0))
    ∗ levAts L lv)

instance ctx_persistent : BI.Persistent (ctx m K) := by unfold ctx; infer_instance

theorem ctx_cell (p : Dev nD × Cell) : ctx m K ⊢ iprop(cellInv ER (Rd m) (K p) (kcell p) ∗ reached ER (kcell p) 0) := by
  classical
  unfold ctx
  exact sep_elim_left.trans (bigSep_elim (Finset.mem_univ p))

theorem ctx_lev : ctx m K ⊢ (levAts L lv : sProp 𝕄) := by
  unfold ctx; exact sep_elim_right

/-- Device `c` owes the receive credits of its copies from the `n`-th on. -/
def Owed (c : Dev nD) (n : ℕ) : sProp 𝕄 := iprop(∃ W, owes (c : Thread nD τ) (owedFrom c n) W)

/-- The two duties a channel's copy discharges. -/
def toks (c : Dev nD) (ch : Ch) : sProp 𝕄 :=
  iprop(dutyTok ER (sendCell c ch) 0 false ∗ dutyTok ER (recvCell (peer ch c) ch) 0 false)

/-- Not yet waited for: a channel cell of device `c`; -/
abbrev pos (c : Dev nD) (x : Bool × Ch) : sProp 𝕄 := atPos ER (kcell (c, some x)) 0 ∅ 0
/-- what its wait will take; -/
abbrev due (c : Dev nD) (x : Bool × Ch) : sProp 𝕄 := cred (tallyAt (kcell (c, some x)) () N)
/-- and after the wait. -/
abbrev shut (c : Dev nD) (x : Bool × Ch) : sProp 𝕄 := semVal (kcell (c, some x)) 0

/-! ## A segment's way to another device -/

section Remote
variable (c : Dev nD)

theorem send_run (ch : Ch) {Q : PUnit → sProp 𝕄} :
    iprop(ctx m K ∗ at' c (src ch) (val m c ch) ∗ anyAt (peer ch c) (dst ch) ∗ toks c ch ∗ Owed c (rank ch))
      ⊢ iprop(((due c (false, ch) ∗ Owed c (rank ch + 1)) -∗ Q ⟨⟩)
          -∗ run c (send (peer ch c) (src ch) (dst ch) (semS ch) (semR ch)) Q) := by
  have pay1 : ∀ fs, (src ch).view.read (Elt F) fs = val m c ch →
      (((src ch).view.loc (c : Thread nD τ) ↦[(src ch).view.set]{fullShare} fs) : sProp 𝕄) ⊢ (Rd m).payload (sendCell c ch) 0 false := by
    intro fs hfs
    rw [payload_send]; unfold sendPay at' owns
    iintro H; iexists fs; isplitr
    · ipureintro; exact hfs
    · iexact H
  have pay2 : ∀ fs fd, (src ch).view.read (Elt F) fs = val m c ch →
      (((dst ch).view.loc (peer ch c : Thread nD τ) ↦[(dst ch).view.set]{fullShare}
        ((dst ch).view.write (Elt F) fd ((src ch).view.read (Elt F) fs) Finset.univ)) : sProp 𝕄)
        ⊢ (Rd m).payload (recvCell (peer ch c) ch) 0 false := by
    intro fs fd hfs
    rw [payload_recv]; unfold recvPay at' owns
    rw [peer_peer, hfs]
    iintro H; iexists _; isplitr
    · ipureintro; exact View.read_write_univ fd (val m c ch)
    · iexact H
  unfold send toks Owed anyAt at' owns Prog.lift
  iintro ⟨#HC, ⟨%fs, %hfs, Hs⟩, ⟨%Y, %fd, -, Hd⟩, ⟨Ht1, Ht2⟩, ⟨%W, HO⟩⟩ Hk
  ihave HX := (ctx_cell m K (c, some (false, ch))) $$ HC
  icases HX with ⟨#HI1, #HR1⟩
  ihave HX := (ctx_cell m K (peer ch c, some (true, ch))) $$ HC
  icases HX with ⟨#HI2, #HR2⟩
  iapply (Rounds.wp_send_pointsTo 𝒱₀ ER (Rd m) (c : Thread nD τ) none (κ₁ := K (c, some (false, ch))) (κ₂ := K (peer ch c, some (true, ch)))
    (r₁ := 0) (r₂ := 0) (d₁ := false) (d₂ := false) (fd := fd) (duty_send m c ch) (duty_recv m (peer ch c) ch)
    () () N (credit_dst ch) (amount_send m c ch false) (amount_recv m (peer ch c) ch false)
    (owedFrom c (rank ch + 1)) (owedFrom_rank c ch) (W := W) (pay1 fs hfs) (pay2 fs fd hfs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]; imodintro
  iapply Hk
  isplitl [Hc]; · iexact Hc
  iexists W; iexact HO

/-- A wait for one of a channel's two semaphores, when all still owed is above its level `b`. -/
theorem wait_run (x : Bool × Ch) {q : DmaSem sig} (hq : csem (some x) = .dma q) {A B : Memref sig .tc .vmem S256x1024 .f32}
    {hA : A.view.WordExact} {hB : B.view.WordExact} (hN : B.view.dmaCredit = N) (n : ℕ)
    (hn : ∀ ch, n ≤ rank ch → cellLv (some (some x)) < cellLv (some (some (true, ch)))) {Q : PUnit → sProp 𝕄} :
    iprop(ctx m K ∗ due c x ∗ pos c x ∗ Owed c n)
      ⊢ iprop(((cellPay m c (some (some x)) false ∗ shut c x ∗ Owed c n) -∗ Q ⟨⟩)
          -∗ run c (Prog.lift (.waitDma2 q A B hA hB)) Q) := by
  have e : kcell (c, some x) = ((c : Thread nD τ), SemLoc.dma q) := by show (_, csem _) = _; rw [hq]
  unfold Owed pos due shut Prog.lift
  iintro ⟨#HC, Hc, Hp, ⟨%W, HO⟩⟩ Hk
  ihave HX := (ctx_cell m K (c, some x)) $$ HC
  icases HX with ⟨#HI, -⟩
  ihave #HL := (ctx_lev m K) $$ HC
  iapply (Rounds.wp_wait_rest_token 𝒱₀ ER (Rd m) (c : Thread nD τ) none (κ := K (c, some x)) (sm := SemLoc.dma q) (k' := N)
    (fun K' => (wpE_waitDma2_eq 𝒱₀ (c : Thread nD τ) none Set.univ K').trans (by rw [hN])) (Set.mem_univ _) ()
    (O := owedFrom c n) (W := W) (R := 0) (m := 0) (T := ∅) (by rw [Nat.zero_add, ← e, expect_chan])) $$ [Hc Hp HO]
  · rw [← e]
    isplitr; · iexact HI
    isplitl [Hc]; · iexact Hc
    isplitl [HO]; · iexact HO
    isplitr
    · iapply (mayWait_owed c (.dma q) n (cellLv (some (some x))) (by rw [← lv_kcell c (some x), e]) hn)
      iexact HL
    iexact Hp
  rw [← e]
  iintro ⟨HO, Hp, -, Hpay⟩
  imod (Rounds.cell_close ER (Rd m) (Set.mem_univ (K (c, some x))) (fun h => h) (R := 0 + 1) (duties_later m (kcell (c, some x)))) $$ [Hp] with Hz
  · isplitr; · iexact HI
    iexact Hp
  rw [wp_ret]; imodintro
  iapply Hk
  isplitl [Hpay]
  · iapply (Entails.of_eq (rest_chan m c x)) $$ Hpay
  isplitl [Hz]; · iexact Hz
  iexists _; iexact HO

theorem sent_run (ch : Ch) (n : ℕ) {Q : PUnit → sProp 𝕄} :
    iprop(ctx m K ∗ due c (false, ch) ∗ pos c (false, ch) ∗ Owed c n)
      ⊢ iprop(((at' c (src ch) (val m c ch) ∗ shut c (false, ch) ∗ Owed c n) -∗ Q ⟨⟩)
          -∗ run c (sent (src ch) (dst ch) (semS ch)) Q) :=
  wait_run m K c (false, ch) rfl (credit_src ch) n (fun ch' _ => Nat.lt_of_lt_of_le (show 0 < 2 from Nat.zero_lt_two) (recv_lv ch').1)

theorem landed_run (ch : Ch) (n : ℕ) (hn : ∀ ch', n ≤ rank ch' → cellLv (some (some (true, ch))) < cellLv (some (some (true, ch'))))
    {Q : PUnit → sProp 𝕄} :
    iprop(ctx m K ∗ due c (true, ch) ∗ pos c (true, ch) ∗ Owed c n)
      ⊢ iprop(((at' c (dst ch) (val m (peer ch c) ch) ∗ shut c (true, ch) ∗ Owed c n) -∗ Q ⟨⟩)
          -∗ run c (landed (src ch) (dst ch) (semR ch)) Q) :=
  wait_run m K c (true, ch) rfl (credit_dst ch) n hn

/-! ## The barrier -/

/-- What device `c`'s landing places are before the barrier, -/
def ownLand : sProp 𝕄 := bigSep Finset.univ fun ch : Ch => anyAt c (dst ch)
/-- and after it: those it will write. -/
def peerLand : sProp 𝕄 := bigSep Finset.univ fun ch : Ch => anyAt (peer ch c) (dst ch)

omit [FloatOps F] in
/-- All channels: those to one near device and those to the other. -/
theorem by_lead (Φ : Ch → sProp 𝕄) :
    bigSep Finset.univ Φ = iprop((bigSep Finset.univ fun x => Φ (leads false x)) ∗ bigSep Finset.univ fun x => Φ (leads true x)) := by
  rw [bigSep_univ_equiv leadsE]
  refine (bigSep_univ_prod _).trans ?_
  rw [bigSep_univ_eq_bigSepL [false, true] (by decide) (by decide)]
  rfl

theorem barrier_run {Q : PUnit → sProp 𝕄} :
    iprop(ctx m K ∗ ownLand c ∗ (∃ W, owes (c : Thread nD τ) (O₀ c) W)
        ∗ dutyTok ER (barCell (near false c)) 0 false ∗ dutyTok ER (barCell (near true c)) 0 true
        ∗ cred (tallyAt (barCell c) () 2) ∗ atPos ER (barCell c) 0 ∅ 0)
      ⊢ iprop(((peerLand c ∗ semVal (barCell c) 0 ∗ Owed c 0) -∗ Q ⟨⟩) -∗ run c (barrier c) Q) := by
  have hland : (ownLand c : sProp 𝕄) ⊢ iprop(barPay (near false c) false ∗ barPay (near true c) true) := by
    unfold ownLand barPay
    rw [by_lead, near_near, near_near]
  have hpeer : iprop(barPay c false ∗ barPay c true) ⊢ (peerLand c : sProp 𝕄) := by
    unfold peerLand barPay
    rw [by_lead, bigSep_congr fun x _ => congrArg (fun d => anyAt d (dst (leads false x))) (peer_leads false x c),
      bigSep_congr (Φ := fun x => anyAt (peer (leads true x) c) (dst (leads true x)))
        fun x _ => congrArg (fun d => anyAt d (dst (leads true x))) (peer_leads true x c)]
  unfold barrier Owed
  simp only [semSignalWord, semWaitWord, Prog.lift, Prog.bind_op, Prog.bind_ret, Prog.pure_eq_ret]
  iintro ⟨#HC, Hl, ⟨%W, HO⟩, HtF, HtT, Hc, Hp⟩ Hk
  ihave HX := (ctx_cell m K (near false c, none)) $$ HC
  icases HX with ⟨#HIF, #HRF⟩
  ihave HX := (ctx_cell m K (near true c, none)) $$ HC
  icases HX with ⟨#HIT, #HRT⟩
  ihave HX := (ctx_cell m K (c, none)) $$ HC
  icases HX with ⟨#HI, -⟩
  ihave #HL := (ctx_lev m K) $$ HC
  ihave Hl' := hland $$ Hl
  icases Hl' with ⟨HlF, HlT⟩
  iapply (Rounds.wp_signal 𝒱₀ ER (Rd m) (c : Thread nD τ) none (dst := (near false c : Thread nD τ)) (κ := K (near false c, none))
      (d := false) (duty_bar m _ false)
      ((amount_kcell m (near false c) none false).trans (by decide)) () (owedFrom c 0 + tallyAt (barCell (near true c)) () 1) rfl) $$ [HO HtF HlF]
  · isplitr; · iexact HIF
    isplitl [HO]; · iexact HO
    isplitl [HtF]; · iexact HtF
    isplitl [HlF]
    · iapply (Entails.of_eq (payload_bar m (near false c) false).symm) $$ HlF
    iexact HRF
  iintro HO
  iapply (Rounds.wp_signal 𝒱₀ ER (Rd m) (c : Thread nD τ) none (dst := (near true c : Thread nD τ)) (κ := K (near true c, none))
      (d := true) (duty_bar m _ true)
      ((amount_kcell m (near true c) none true).trans (by decide)) () (owedFrom c 0) rfl) $$ [HO HtT HlT]
  · isplitr; · iexact HIT
    isplitl [HO]; · iexact HO
    isplitl [HtT]; · iexact HtT
    isplitl [HlT]
    · iapply (Entails.of_eq (payload_bar m (near true c) true).symm) $$ HlT
    iexact HRT
  iintro HO
  iapply (Rounds.wp_wait_rest_token 𝒱₀ ER (Rd m) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hp]
  · isplitr; · iexact HI
    isplitl [Hc]; · iexact Hc
    isplitl [HO]; · iexact HO
    isplitr
    · iapply (mayWait_owed c (.reg barS) 0 1 (Nat.le_of_eq (lv_kcell c none)) (fun ch _ => (recv_lv ch).1)); iexact HL
    iexact Hp
  iintro ⟨HO, Hp, -, Hpay⟩
  imod (Rounds.cell_close ER (Rd m) (Set.mem_univ (K (c, none))) (fun h => h) (R := 0 + 1) (duties_later m (barCell c))) $$ [Hp] with Hz
  · isplitr; · iexact HI
    iexact Hp
  rw [wp_ret]; imodintro
  iapply Hk
  isplitl [Hpay]
  · iapply hpeer
    iapply (Entails.of_eq (rest_bar m c)) $$ Hpay
  isplitl [Hz]; · iexact Hz
  iexists _; iexact HO

end Remote

end Cert.KernelIdeal.Dist
-- ==== Proof.Work.lean ====
/-
# A device's own work

The rules for the copies on the device itself and for the arithmetic, at a symbolic half and segment.
-/
module

public import proofs.«01_k».proof.Proof.Moves

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Values -/

theorem cast_self {S : Shape} {α : Type} (h : S.ShapeCasts S) (X : S.Idx → α) : shapeCast S X h = X := by
  funext i
  show X (Shape.reshapeEquiv _ i) = X i
  rw [Shape.reshapeEquiv_self]

omit [FloatOps F] in
theorem cast_there {S t : Shape} {e : EltTy} (h : t.numel = S.numel) (hs : S.ShapeCasts t) (X : t.Idx → Elt F e) :
    (shapeCast t (fun i : S.Idx => X ((Shape.reshapeEquiv h).symm i)) hs : t.Idx → Elt F e) = X := by
  funext i
  show X ((Shape.reshapeEquiv h).symm (Shape.reshapeEquiv _ i)) = X i
  rw [Equiv.symm_apply_apply]

omit [FloatOps F] in
theorem cast_back {S t : Shape} {e : EltTy} (h : t.numel = S.numel) (hs : t.ShapeCasts S) (X : t.Idx → Elt F e) :
    (fun i : t.Idx => (shapeCast S X hs : S.Idx → Elt F e) (Shape.reshapeEquiv h i)) = X := by
  funext i
  show X (Shape.reshapeEquiv _ (Shape.reshapeEquiv h i)) = X i
  rw [Shape.reshapeEquiv_reshapeEquiv, Shape.reshapeEquiv_self]

theorem dot3_eq (X : Vec F S256x1024 .f32) (w : Vec F S1024x1024 .f32) (h : S256x1024.numel = S1x256x1024.numel) :
    (fun i => dot3 (fun i : S1x256x1024.Idx => X ((Shape.reshapeEquiv h).symm i)) w (Shape.reshapeEquiv h i)) = dot X w := by
  unfold dot3
  rw [cast_back, cast_there, cast_self]

theorem dot2_eq (X : Vec F S256x1024 .f32) (w : Vec F S1024x1024 .f32) (h : S256x1024.numel = S1x256x1024.numel) :
    dot2 (fun i : S1x256x1024.Idx => X ((Shape.reshapeEquiv h).symm i)) w = dot X w := by
  unfold dot2
  rw [cast_self, cast_there, cast_self]

theorem add2_eq (X Y : Vec F S256x1024 .f32) (h : S256x1024.numel = S1x256x1024.numel) :
    add2 X (fun i : S1x256x1024.Idx => Y ((Shape.reshapeEquiv h).symm i)) = addf X Y := by
  unfold add2
  rw [cast_self, cast_there]

theorem fin3_eq (X Y Z : Vec F S256x1024 .f32) (h : S256x1024.numel = S1x256x1024.numel) :
    fin3 (fun i : S1x256x1024.Idx => X ((Shape.reshapeEquiv h).symm i)) (fun i : S1x256x1024.Idx => Y ((Shape.reshapeEquiv h).symm i)) Z
      = maximumf (addf (addf X Y) Z) (broadcast S256x1024 (Scalar.ofBits .f32 0x00000000#32)) := by
  unfold fin3
  rw [cast_self, cast_there, cast_there]

theorem run_ret {Q : PUnit → sProp 𝕄} : Q ⟨⟩ ⊢ run c (.ret ⟨⟩) Q := by
  unfold run; rw [wp_ret]; iintro H; imodintro; iexact H

/-! ## Copies -/

/-- The device's block of the left operand, unchanged; -/
def xPts : sProp 𝕄 := ((c : Thread nD τ).loc main_arg0) ↦{fullShare} m ((c : Thread nD τ).loc main_arg0)
/-- a landing place and its semaphore. -/
def place (k : Fin 4) : sProp 𝕄 := iprop(anyAt c (slot k) ∗ semVal ((c : Thread nD τ), .dma (semX k)) 0)
/-- The same holding a chunk's segment. -/
def placed (k : Fin 4) (X : Vec F S256x1024 .f32) : sProp 𝕄 :=
  iprop(at' c (slot k) X ∗ semVal ((c : Thread nD τ), .dma (semX k)) 0)

omit [FloatOps F] in
theorem any_of {sp : Space} {sh : Shape} {e : EltTy} (M : Memref sig .tc sp sh e) (X : sh.Idx → Elt F e) :
    (at' c M X : sProp 𝕄) ⊢ anyAt c M := by unfold anyAt at'; iintro H; iexists X; iexact H

omit [FloatOps F] in
theorem place_of (k : Fin 4) (X : Vec F S256x1024 .f32) : (placed c k X : sProp 𝕄) ⊢ place c k := by
  unfold placed place
  iintro ⟨H, Hs⟩
  isplitl [H]
  · iapply (any_of c (slot k) X) $$ H
  · iexact Hs

theorem dec_other (q : DmaSem sig) (h : q.val = 0 ∨ 49 ≤ q.val) : cellLv (dec (.dma q)) = 0 := by
  cases hd : dec (.dma q) with
  | none => rfl
  | some k =>
    have hk := dec_eq hd
    have hv : num k = q.val := by rw [← semNum_csem, hk]; rfl
    exfalso
    obtain _ | ⟨_ | _, _ | _, _ | ⟨j, hj⟩, ⟨s, hs⟩⟩ := k
    · exact absurd hk (by intro h; cases h)
    all_goals (simp only [num, Bool.toNat_false, Bool.toNat_true] at hv; omega)

/-- The semaphores outside the protocol may be waited for at any time. -/
theorem mayWait_other (q : DmaSem sig) (h : q.val = 0 ∨ 49 ≤ q.val) (n : ℕ) :
    (levAts L lv : sProp 𝕄) ⊢ MayWait (c : Thread nD τ) (.dma q) () (owedFrom c n) :=
  mayWait_owed c (.dma q) n 0 (Nat.le_of_eq (dec_other q h)) (fun ch _ => Nat.lt_of_lt_of_le Nat.zero_lt_two (recv_lv ch).1)

theorem slot_credit (k : Fin 4) : (slot k).view.dmaCredit = N := rfl
theorem segO_credit (h : Bool) (s : Fin 4) : (segO h s).view.dmaCredit = N := rfl

theorem fetch_run (off : Fin 2 → ℕ) (inb : ∀ a, off a + S256x1024.size a ≤ S4096x1024.size a) (k : Fin 4) (n : ℕ) {Q : PUnit → sProp 𝕄} :
    iprop(ctx m K ∗ xPts m c ∗ place c k ∗ Owed c n)
      ⊢ iprop(((xPts m c ∗ placed c k ((xM.slice (Rect.unit (s := S4096x1024) off S256x1024.size inb) (fun _ => rfl)).view.read (Elt F)
              (m ((c : Thread nD τ).loc main_arg0))) ∗ Owed c n) -∗ Q ⟨⟩)
          -∗ run c (fetch (xM.slice (Rect.unit (s := S4096x1024) off S256x1024.size inb) (fun _ => rfl)) k) Q) := by
  unfold fetch xPts place placed Owed
  simp only [Prog.lift, Prog.bind_op, Prog.bind_ret, Prog.pure_eq_ret]
  iintro ⟨#HC, Hx, ⟨Hp, Hs⟩, ⟨%W, HO⟩⟩ Hk
  ihave #HL := (ctx_lev m K) $$ HC
  ihave Hx' := (pointsTo_split_subset (Finset.subset_univ (xM.slice (Rect.unit (s := S4096x1024) off S256x1024.size inb) (fun _ => rfl)).view.set)).1 $$ Hx
  icases Hx' with ⟨Hx, Hrest⟩
  iapply (copy_start c (A := xM.slice (Rect.unit (s := S4096x1024) off S256x1024.size inb) (fun _ => rfl)) (B := slot k)
    N (slot_credit k) N_pos) $$ [Hx Hp Hs]
  · isplitl [Hx]; · iexact Hx
    isplitl [Hp]; · iexact Hp
    iexact Hs
  iintro HF
  iapply (wp_waitLocalO EC 𝒱₀ (c : Thread nD τ) none () (slot_credit k) (O := owedFrom c n) (W := W)) $$ [HF HO]
  · isplitl [HF]; · iexact HF
    isplitl [HO]; · iexact HO
    iapply (mayWait_other c (semX k) (.inr (Nat.le_add_right _ _)) n); iexact HL
  iintro ⟨⟨Hp, Hx⟩, Hs, HO⟩
  iapply (run_ret c)
  iapply Hk
  isplitl [Hx Hrest]
  · iapply (pointsTo_split_subset (Finset.subset_univ (xM.slice (Rect.unit (s := S4096x1024) off S256x1024.size inb) (fun _ => rfl)).view.set)).2
    isplitl [Hx]; · iexact Hx
    iexact Hrest
  isplitl [Hp Hs]
  · isplitl [Hp]; · iexact Hp
    iexact Hs
  iexists _; iexact HO

/-- On its way to the result: the segment of the result will hold it, and the source comes back. -/
def flying (h : Bool) (s : Fin 4) (X : Vec F S256x1024 .f32) : sProp 𝕄 :=
  Flight EC (c : Thread nD τ) (.dma (semO h s)) () N iprop(at' c (segO h s) X ∗ at' c (seg2 (sumM h) s) X)

theorem copyOut_run (h : Bool) (s : Fin 4) (X : Vec F S256x1024 .f32) {Q : PUnit → sProp 𝕄} :
    iprop(at' c (seg2 (sumM h) s) X ∗ anyAt c (segO h s) ∗ semVal ((c : Thread nD τ), .dma (semO h s)) 0)
      ⊢ iprop((flying c h s X -∗ Q ⟨⟩) -∗ run c (copyOut h s) Q) := by
  unfold copyOut flying Prog.lift
  iintro ⟨Hs, Ho, Hv⟩ Hk
  ihave Hs' := (show at' c (seg2 (sumM h) s) X ⊢ (iprop(∃ f, ⌜(seg2 (sumM h) s).view.read (Elt F) f = X⌝
    ∗ (seg2 (sumM h) s).view.loc (c : Thread nD τ) ↦[(seg2 (sumM h) s).view.set]{fullShare} f) : sProp 𝕄) from .rfl) $$ Hs
  icases Hs' with ⟨%f, %hf, Hs⟩
  iapply (copy_start c (A := seg2 (sumM h) s) (B := segO h s) N (segO_credit h s) N_pos) $$ [Hs Ho Hv]
  · isplitl [Hs]; · iexact Hs
    isplitl [Ho]; · iexact Ho
    iexact Hv
  iintro HF
  iapply (run_ret c)
  iapply Hk
  have hback : ((seg2 (sumM h) s).view.loc (c : Thread nD τ) ↦[(seg2 (sumM h) s).view.set]{fullShare} f : sProp 𝕄)
      ⊢ at' c (seg2 (sumM h) s) X := by
    show _ ⊢ iprop(∃ f, ⌜(seg2 (sumM h) s).view.read (Elt F) f = X⌝
      ∗ (seg2 (sumM h) s).view.loc (c : Thread nD τ) ↦[(seg2 (sumM h) s).view.set]{fullShare} f)
    iintro H
    iexists f
    isplitr
    · ipureintro; exact hf
    · iexact H
  rw [hf]
  iapply (Flight_mono EC (c : Thread nD τ) (sep_mono_right hback)) $$ HF

theorem copied_run (h : Bool) (s : Fin 4) (X : Vec F S256x1024 .f32) (n : ℕ) {Q : PUnit → sProp 𝕄} :
    iprop(ctx m K ∗ flying c h s X ∗ Owed c n)
      ⊢ iprop(((at' c (segO h s) X ∗ at' c (seg2 (sumM h) s) X ∗ semVal ((c : Thread nD τ), .dma (semO h s)) 0 ∗ Owed c n) -∗ Q ⟨⟩)
          -∗ run c (copied h s) Q) := by
  unfold copied flying Owed Prog.lift
  iintro ⟨#HC, HF, ⟨%W, HO⟩⟩ Hk
  ihave #HL := (ctx_lev m K) $$ HC
  iapply (wp_waitLocalO EC 𝒱₀ (c : Thread nD τ) none () (segO_credit h s) (O := owedFrom c n) (W := W)) $$ [HF HO]
  · isplitl [HF]; · iexact HF
    isplitl [HO]; · iexact HO
    iapply (mayWait_other c (semO h s) (.inr (by show 49 ≤ 53 + 4 * h.toNat + s.val; omega)) n); iexact HL
  iintro ⟨⟨Ho, Hs⟩, Hv, HO⟩
  iapply (run_ret c)
  iapply Hk
  isplitl [Ho]; · iexact Ho
  isplitl [Hs]; · iexact Hs
  isplitl [Hv]; · iexact Hv
  iexists _; iexact HO

/-! ## Arithmetic -/

/-- The device's block of the right operand, staged. -/
def wPts : sProp 𝕄 := at' c wM (wstg m c)

theorem mul3_run (k : Fin 4) (h : Bool) (j : Fin 2) (s : Fin 4) (X : Vec F S256x1024 .f32) {Q : PUnit → sProp 𝕄} :
    iprop(placed c k X ∗ wPts m c ∗ anyAt c (seg3 (prodM h) j s))
      ⊢ iprop(((placed c k X ∗ wPts m c ∗ at' c (seg3 (prodM h) j s) (dot X (wHalf m c h))) -∗ Q ⟨⟩) -∗ run c (mul3 k h j s) Q) := by
  unfold mul3 placed wPts
  simp only [Prog.lift, Prog.bind_op, Prog.bind_ret, Prog.pure_eq_ret]
  iintro ⟨⟨Hx, Hs⟩, Hw, Hp⟩ Hk
  iapply (load_squeezed c (M := slotM)) $$ Hx
  iintro Hx
  iapply (load_part c (M := wM)) $$ Hw
  iintro Hw
  unfold anyAt
  icases Hp with ⟨%Y, Hp⟩
  iapply (load_squeezed c (M := prodM h)) $$ Hp
  iintro Hp
  iapply (store_squeezed c (M := prodM h)) $$ [Hp]
  · iapply (any_of c (seg3 (prodM h) j s) Y) $$ Hp
  iintro Hp
  iapply (run_ret c)
  iapply Hk
  isplitl [Hx Hs]
  · isplitl [Hx]; · iexact Hx
    iexact Hs
  isplitl [Hw]; · iexact Hw
  rw [← dot3_eq X (wHalf m c h) squeezes_S1x256x1024_S256x1024.numel_eq]
  iexact Hp

theorem mul2_run (k : Fin 4) (h : Bool) (s : Fin 4) (X : Vec F S256x1024 .f32) {Q : PUnit → sProp 𝕄} :
    iprop(placed c k X ∗ wPts m c ∗ anyAt c (seg2 (sumM h) s))
      ⊢ iprop(((placed c k X ∗ wPts m c ∗ at' c (seg2 (sumM h) s) (dot X (wHalf m c h))) -∗ Q ⟨⟩) -∗ run c (mul2 k h s) Q) := by
  unfold mul2 placed wPts
  simp only [Prog.lift, Prog.bind_op, Prog.bind_ret, Prog.pure_eq_ret]
  iintro ⟨⟨Hx, Hs⟩, Hw, Hp⟩ Hk
  iapply (load_squeezed c (M := slotM)) $$ Hx
  iintro Hx
  iapply (load_part c (M := wM)) $$ Hw
  iintro Hw
  unfold anyAt
  icases Hp with ⟨%Y, Hp⟩
  iapply (load_slice c (M := sumM h)) $$ Hp
  iintro Hp
  iapply (store_slice c (M := sumM h)) $$ [Hp]
  · iapply (any_of c (seg2 (sumM h) s) Y) $$ Hp
  iintro Hp
  iapply (run_ret c)
  iapply Hk
  isplitl [Hx Hs]
  · isplitl [Hx]; · iexact Hx
    iexact Hs
  isplitl [Hw]; · iexact Hw
  rw [← dot2_eq X (wHalf m c h) squeezes_S1x256x1024_S256x1024.numel_eq]
  iexact Hp

theorem addUp_run (h : Bool) (s : Fin 4) (X Y : Vec F S256x1024 .f32) {Q : PUnit → sProp 𝕄} :
    iprop(at' c (seg2 (sumM h) s) X ∗ at' c (seg3 (landM h) 1 s) Y)
      ⊢ iprop(((at' c (seg2 (sumM h) s) (addf X Y) ∗ at' c (seg3 (landM h) 1 s) Y) -∗ Q ⟨⟩) -∗ run c (addUp h s) Q) := by
  unfold addUp
  simp only [Prog.lift, Prog.bind_op, Prog.bind_ret, Prog.pure_eq_ret]
  iintro ⟨Hs, Hl⟩ Hk
  iapply (load_slice c (M := sumM h)) $$ Hs
  iintro Hs
  iapply (load_squeezed c (M := landM h)) $$ Hl
  iintro Hl
  iapply (load_slice c (M := sumM h)) $$ Hs
  iintro Hs
  iapply (store_slice c (M := sumM h)) $$ [Hs]
  · iapply (any_of c (seg2 (sumM h) s) X) $$ Hs
  iintro Hs
  iapply (run_ret c)
  iapply Hk
  isplitl [Hs]
  · rw [← add2_eq X Y squeezes_S1x256x1024_S256x1024.numel_eq]; iexact Hs
  iexact Hl

theorem finish_run (h : Bool) (s : Fin 4) (X Y Z : Vec F S256x1024 .f32) {Q : PUnit → sProp 𝕄} :
    iprop(at' c (seg3 (prodM h) 0 s) X ∗ at' c (seg3 (landM h) 0 s) Y ∗ at' c (seg2 (land2M h) s) Z ∗ anyAt c (seg2 (sumM h) s))
      ⊢ iprop(((at' c (seg3 (prodM h) 0 s) X ∗ at' c (seg3 (landM h) 0 s) Y ∗ at' c (seg2 (land2M h) s) Z
            ∗ at' c (seg2 (sumM h) s) (maximumf (addf (addf X Y) Z) (broadcast S256x1024 (Scalar.ofBits .f32 0x00000000#32)))) -∗ Q ⟨⟩)
          -∗ run c (finish h s) Q) := by
  unfold finish
  simp only [Prog.lift, Prog.bind_op, Prog.bind_ret, Prog.pure_eq_ret]
  iintro ⟨Hp, Hl, H2, Hs⟩ Hk
  iapply (load_squeezed c (M := prodM h)) $$ Hp
  iintro Hp
  iapply (load_squeezed c (M := landM h)) $$ Hl
  iintro Hl
  iapply (load_slice c (M := land2M h)) $$ H2
  iintro H2
  unfold anyAt
  icases Hs with ⟨%Y', Hs⟩
  iapply (load_slice c (M := sumM h)) $$ Hs
  iintro Hs
  iapply (store_slice c (M := sumM h)) $$ [Hs]
  · iapply (any_of c (seg2 (sumM h) s) Y') $$ Hs
  iintro Hs
  iapply (run_ret c)
  iapply Hk
  isplitl [Hp]; · iexact Hp
  isplitl [Hl]; · iexact Hl
  isplitl [H2]; · iexact H2
  rw [← fin3_eq X Y Z squeezes_S1x256x1024_S256x1024.numel_eq]; iexact Hs

end Cert.KernelIdeal.Dist
-- ==== Proof.Steps.lean ====
/-
# The steps of the kernel

What each step takes and leaves, at a symbolic segment, and the kernel as the steps in their order.
-/
module

public import proofs.«01_k».proof.Proof.Work

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Programs in sequence -/

theorem run_seq {p q : KProg F PUnit} {Q : PUnit → sProp 𝕄} :
    run c (do p; q) Q = run c p (fun _ => run c q Q) := wp_bind ..

/-- A step at both halves, from state `S` to the next at each. -/
theorem both_run {f : Bool → KProg F PUnit} {A B : Bool → sProp 𝕄} {S : ℕ → sProp 𝕄}
    (hf : ∀ h (Q : PUnit → sProp 𝕄), iprop(A h ∗ S h.toNat) ⊢ iprop(((B h ∗ S (h.toNat + 1)) -∗ Q ⟨⟩) -∗ run c (f h) Q))
    {Q : PUnit → sProp 𝕄} :
    iprop((A false ∗ A true) ∗ S 0) ⊢ iprop((((B false ∗ B true) ∗ S 2) -∗ Q ⟨⟩) -∗ run c (both f) Q) := by
  have h0 : ∀ Q : PUnit → sProp 𝕄, iprop(A false ∗ S 0) ⊢ iprop(((B false ∗ S 1) -∗ Q ⟨⟩) -∗ run c (f false) Q) := hf false
  have h1 : ∀ Q : PUnit → sProp 𝕄, iprop(A true ∗ S 1) ⊢ iprop(((B true ∗ S 2) -∗ Q ⟨⟩) -∗ run c (f true) Q) := hf true
  unfold both
  rw [run_seq]
  iintro ⟨⟨Ha, Hb⟩, HS⟩ Hk
  iapply (h0 _) $$ [Ha HS]
  · isplitl [Ha]; · iexact Ha
    iexact HS
  iintro ⟨Ha, HS⟩
  iapply (h1 _) $$ [Hb HS]
  · isplitl [Hb]; · iexact Hb
    iexact HS
  iintro ⟨Hb, HS⟩
  iapply Hk
  isplitr [HS]
  · isplitl [Ha]; · iexact Ha
    iexact Hb
  iexact HS

omit [FloatOps F] in
theorem to_eq {P Q : sProp 𝕄} (h : P ⊢ Q) (h' : Q ⊢ P) : P = Q := equiv_iff.mp ⟨h, h'⟩

omit [FloatOps F] in
theorem four (A : Fin 4 → sProp 𝕄) : bigSep Finset.univ A = iprop(A 0 ∗ A 1 ∗ A 2 ∗ A 3) := by
  rw [bigSep_univ_eq_bigSepL [0, 1, 2, 3] (by decide) (by decide)]
  rfl

/-- A step at the four segments, from state `S` to the next at each. -/
theorem segs_run {f : Fin 4 → KProg F PUnit} {A B : Fin 4 → sProp 𝕄} {S : ℕ → sProp 𝕄}
    (hf : ∀ s (Q : PUnit → sProp 𝕄), iprop(A s ∗ S s.val) ⊢ iprop(((B s ∗ S (s.val + 1)) -∗ Q ⟨⟩) -∗ run c (f s) Q))
    {Q : PUnit → sProp 𝕄} :
    iprop(bigSep Finset.univ A ∗ S 0) ⊢ iprop(((bigSep Finset.univ B ∗ S 4) -∗ Q ⟨⟩) -∗ run c (segs f) Q) := by
  have h0 : ∀ Q : PUnit → sProp 𝕄, iprop(A 0 ∗ S 0) ⊢ iprop(((B 0 ∗ S 1) -∗ Q ⟨⟩) -∗ run c (f 0) Q) := hf 0
  have h1 : ∀ Q : PUnit → sProp 𝕄, iprop(A 1 ∗ S 1) ⊢ iprop(((B 1 ∗ S 2) -∗ Q ⟨⟩) -∗ run c (f 1) Q) := hf 1
  have h2 : ∀ Q : PUnit → sProp 𝕄, iprop(A 2 ∗ S 2) ⊢ iprop(((B 2 ∗ S 3) -∗ Q ⟨⟩) -∗ run c (f 2) Q) := hf 2
  have h3 : ∀ Q : PUnit → sProp 𝕄, iprop(A 3 ∗ S 3) ⊢ iprop(((B 3 ∗ S 4) -∗ Q ⟨⟩) -∗ run c (f 3) Q) := hf 3
  unfold segs
  rw [four, four, run_seq, run_seq, run_seq]
  iintro ⟨⟨H0, H1, H2, H3⟩, HS⟩ Hk
  iapply (h0 _) $$ [H0 HS]
  · isplitl [H0]; · iexact H0
    iexact HS
  iintro ⟨H0, HS⟩
  iapply (h1 _) $$ [H1 HS]
  · isplitl [H1]; · iexact H1
    iexact HS
  iintro ⟨H1, HS⟩
  iapply (h2 _) $$ [H2 HS]
  · isplitl [H2]; · iexact H2
    iexact HS
  iintro ⟨H2, HS⟩
  iapply (h3 _) $$ [H3 HS]
  · isplitl [H3]; · iexact H3
    iexact HS
  iintro ⟨H3, HS⟩
  iapply Hk
  isplitr [HS]
  · isplitl [H0]; · iexact H0
    isplitl [H1]; · iexact H1
    isplitl [H2]; · iexact H2
    iexact H3
  iexact HS

/-- One thing for each half and segment. -/
def all (A : Bool → Fin 4 → sProp 𝕄) : sProp 𝕄 := bigSep Finset.univ fun s : Fin 4 => iprop(A false s ∗ A true s)

omit [FloatOps F] in
theorem all_sep (A B : Bool → Fin 4 → sProp 𝕄) : all (fun h s => iprop(A h s ∗ B h s)) = iprop(all A ∗ all B) := by
  unfold all
  rw [← bigSep_sep']
  exact bigSep_congr fun s _ => to_eq sep_sep_sep_comm.1 sep_sep_sep_comm.2

omit [FloatOps F] in
theorem all_not (A : Bool → Fin 4 → sProp 𝕄) : all (fun h s => A (!h) s) = all A := by
  unfold all
  exact bigSep_congr fun s _ => to_eq Laws.sep_comm.1 Laws.sep_comm.2

omit [FloatOps F] in
theorem all_mono {A B : Bool → Fin 4 → sProp 𝕄} (h : ∀ i s, A i s ⊢ B i s) : all A ⊢ all B := by
  unfold all
  exact bigSep_mono fun s _ => BIClass.sep_mono (h false s) (h true s)

/-- A step at every segment and half, from state `S` to the next at each. -/
theorem all_run {f : Bool → Fin 4 → KProg F PUnit} {A B : Bool → Fin 4 → sProp 𝕄} {S : ℕ → sProp 𝕄}
    (hf : ∀ h s (Q : PUnit → sProp 𝕄), iprop(A h s ∗ S (2 * s.val + h.toNat))
      ⊢ iprop(((B h s ∗ S (2 * s.val + h.toNat + 1)) -∗ Q ⟨⟩) -∗ run c (f h s) Q))
    {Q : PUnit → sProp 𝕄} :
    iprop(all A ∗ S 0) ⊢ iprop(((all B ∗ S 8) -∗ Q ⟨⟩) -∗ run c (segs fun s => both fun h => f h s) Q) :=
  segs_run c (A := fun s => iprop(A false s ∗ A true s)) (B := fun s => iprop(B false s ∗ B true s)) (S := fun n => S (2 * n))
    fun s Q => both_run c (A := fun h => A h s) (B := fun h => B h s) (S := fun n => S (2 * s.val + n)) fun h Q => hf h s Q

/-! ## The state between steps -/

/-- What every step finds and leaves: both operands, the landing places, and the copies still owed from the `n`th on. -/
def St (n : ℕ) : sProp 𝕄 :=
  iprop(ctx m K ∗ xPts m c ∗ wPts m c ∗ (bigSep Finset.univ fun k => place c k) ∗ Owed c n)

/-- Ready to be sent, at any contents: the segment, its landing place, the duties of the copy; -/
def ready (ch : Ch) : sProp 𝕄 := iprop(anyAt c (src ch) ∗ anyAt (peer ch c) (dst ch) ∗ toks c ch)
/-- sent, at the sender: the wait that gives the segment back; -/
def gone (ch : Ch) : sProp 𝕄 := iprop(due c (false, ch) ∗ pos c (false, ch))
/-- what the near device will write: the wait that gives it. -/
def awaited (ch : Ch) : sProp 𝕄 := iprop(due c (true, ch) ∗ pos c (true, ch))
/-- A segment back from its copy, -/
def back (ch : Ch) (X : Vec F S256x1024 .f32) : sProp 𝕄 := iprop(at' c (src ch) X ∗ shut c (false, ch))
/-- and one that has arrived. -/
def here (ch : Ch) : sProp 𝕄 := iprop(at' c (dst ch) (val m (peer ch c) ch) ∗ shut c (true, ch))

/-! ## Chunks -/

theorem off_far (d : Dev nD) (s : Fin 4) : k0_off1 d (BitVec.ofNat 32 (256 * s.val)) = k0_off4 (far d) (BitVec.ofNat 32 (256 * s.val)) := by
  revert d s; decide +kernel
theorem off_near0 (d : Dev nD) (s : Fin 4) : k0_off2 d (BitVec.ofNat 32 (256 * s.val)) = k0_off4 (near false d) (BitVec.ofNat 32 (256 * s.val)) := by
  revert d s; decide +kernel
theorem off_near1 (d : Dev nD) (s : Fin 4) : k0_off3 d (BitVec.ofNat 32 (256 * s.val)) = k0_off4 (near true d) (BitVec.ofNat 32 (256 * s.val)) := by
  revert d s; decide +kernel

theorem slice_congr {off off' : Fin 2 → ℕ} (h : off = off') (inb : ∀ a, off a + S256x1024.size a ≤ S4096x1024.size a)
    (inb' : ∀ a, off' a + S256x1024.size a ≤ S4096x1024.size a) :
    xM.slice (Rect.unit (s := S4096x1024) off S256x1024.size inb) (fun _ => rfl)
      = xM.slice (Rect.unit (s := S4096x1024) off' S256x1024.size inb') (fun _ => rfl) := by
  subst h; rfl

theorem xFar_eq (d : Dev nD) (s : Fin 4) : xFar d s = xOwn (far d) s := slice_congr (off_far d s) _ _
theorem xNear_eq (h : Bool) (d : Dev nD) (s : Fin 4) : xNear h d s = xOwn (near h d) s := by
  cases h
  · exact slice_congr (off_near0 d s) _ _
  · exact slice_congr (off_near1 d s) _ _

/-- The state with a chunk's segment in landing place `k`, -/
def StAt (k : Fin 4) (X : Vec F S256x1024 .f32) (n : ℕ) : sProp 𝕄 :=
  iprop(ctx m K ∗ placed c k X ∗ wPts m c ∗ Owed c n ∗ xPts m c ∗ (bigSep (Finset.univ.erase k) fun k => place c k))

/-- which is forgotten at the end of the step. -/
theorem StAt_St (k : Fin 4) (X : Vec F S256x1024 .f32) (n : ℕ) : StAt m K c k X n ⊢ St m K c n := by
  unfold StAt St
  rw [bigSep_univ_at (fun k => place c k) k]
  iintro ⟨HC, Hp, Hw, HO, Hx, Hr⟩
  isplitl [HC]; · iexact HC
  isplitl [Hx]; · iexact Hx
  isplitl [Hw]; · iexact Hw
  isplitr [HO]
  · isplitl [Hp]
    · iapply (place_of c k X) $$ Hp
    iexact Hr
  iexact HO

theorem fetch_st (r : Dev nD) (s k : Fin 4) (n : ℕ) {Q : PUnit → sProp 𝕄} :
    St m K c n ⊢ iprop((StAt m K c k (chunk m c r s) n -∗ Q ⟨⟩) -∗ run c (fetch (xOwn r s) k) Q) := by
  unfold StAt St
  rw [bigSep_univ_at (fun k => place c k) k]
  iintro ⟨#HC, Hx, Hw, ⟨Hp, Hr⟩, HO⟩ Hk
  iapply (fetch_run m K c (k0_off4 r (BitVec.ofNat 32 (256 * s.val))) (k0_off4_inb r s) k n) $$ [Hx Hp HO]
  · isplitr; · iexact HC
    isplitl [Hx]; · iexact Hx
    isplitl [Hp]; · iexact Hp
    iexact HO
  iintro ⟨Hx, Hp, HO⟩
  iapply Hk
  isplitr; · iexact HC
  isplitl [Hp]; · iexact Hp
  isplitl [Hw]; · iexact Hw
  isplitl [HO]; · iexact HO
  isplitl [Hx]; · iexact Hx
  iexact Hr

theorem mul3_st (k : Fin 4) (h : Bool) (j : Fin 2) (s : Fin 4) (r : Dev nD) (t : Fin 4) (n : ℕ) {Q : PUnit → sProp 𝕄} :
    iprop(StAt m K c k (chunk m c r t) n ∗ anyAt c (src (h, some j, s)))
      ⊢ iprop(((StAt m K c k (chunk m c r t) n ∗ at' c (src (h, some j, s)) (part m c r h t)) -∗ Q ⟨⟩) -∗ run c (mul3 k h j s) Q) := by
  unfold StAt
  iintro ⟨⟨#HC, Hp, Hw, HO⟩, Hd⟩ Hk
  iapply (mul3_run m c k h j s (chunk m c r t)) $$ [Hp Hw Hd]
  · isplitl [Hp]; · iexact Hp
    isplitl [Hw]; · iexact Hw
    iexact Hd
  iintro ⟨Hp, Hw, Hd⟩
  iapply Hk
  isplitr [Hd]
  · isplitr; · iexact HC
    isplitl [Hp]; · iexact Hp
    isplitl [Hw]; · iexact Hw
    iexact HO
  iexact Hd

theorem mul2_st (k : Fin 4) (h : Bool) (s : Fin 4) (r : Dev nD) (n : ℕ) {Q : PUnit → sProp 𝕄} :
    iprop(StAt m K c k (chunk m c r s) n ∗ anyAt c (src (h, none, s)))
      ⊢ iprop(((StAt m K c k (chunk m c r s) n ∗ at' c (src (h, none, s)) (part m c r h s)) -∗ Q ⟨⟩) -∗ run c (mul2 k h s) Q) := by
  unfold StAt
  iintro ⟨⟨#HC, Hp, Hw, HO⟩, Hd⟩ Hk
  iapply (mul2_run m c k h s (chunk m c r s)) $$ [Hp Hw Hd]
  · isplitl [Hp]; · iexact Hp
    isplitl [Hw]; · iexact Hw
    iexact Hd
  iintro ⟨Hp, Hw, Hd⟩
  iapply Hk
  isplitr [Hd]
  · isplitr; · iexact HC
    isplitl [Hp]; · iexact Hp
    isplitl [Hw]; · iexact Hw
    iexact HO
  iexact Hd

theorem send_st (k : Fin 4) (X : Vec F S256x1024 .f32) (ch : Ch) {Q : PUnit → sProp 𝕄} :
    iprop(StAt m K c k X (rank ch) ∗ at' c (src ch) (val m c ch) ∗ anyAt (peer ch c) (dst ch) ∗ toks c ch)
      ⊢ iprop(((StAt m K c k X (rank ch + 1) ∗ due c (false, ch)) -∗ Q ⟨⟩)
        -∗ run c (send (peer ch c) (src ch) (dst ch) (semS ch) (semR ch)) Q) := by
  unfold StAt
  iintro ⟨⟨#HC, Hp, Hw, HO, Hr⟩, Hs, Hd, Ht⟩ Hk
  iapply (send_run m K c ch) $$ [Hs Hd Ht HO]
  · isplitr; · iexact HC
    isplitl [Hs]; · iexact Hs
    isplitl [Hd]; · iexact Hd
    isplitl [Ht]; · iexact Ht
    iexact HO
  iintro ⟨Hu, HO⟩
  iapply Hk
  isplitr [Hu]
  · isplitr; · iexact HC
    isplitl [Hp]; · iexact Hp
    isplitl [Hw]; · iexact Hw
    isplitl [HO]; · iexact HO
    iexact Hr
  iexact Hu

/-! ## The steps -/

/-- A product into a plane of the products and on its way. -/
theorem mul_send (k : Fin 4) (ch : Ch) (h : Bool) (j : Fin 2) (s : Fin 4) (hc : ch = (h, some j, s)) (r : Dev nD)
    (hv : part m c r h s = val m c ch) {Q : PUnit → sProp 𝕄} :
    iprop(StAt m K c k (chunk m c r s) (rank ch) ∗ ready c ch)
      ⊢ iprop(((StAt m K c k (chunk m c r s) (rank ch + 1) ∗ due c (false, ch)) -∗ Q ⟨⟩)
        -∗ run c (do mul3 k h j s; send1 c h j s) Q) := by
  subst hc
  unfold ready
  rw [run_seq]
  iintro ⟨HS, Hs, Hd, Ht⟩ Hk
  iapply (mul3_st m K c k h j s r s _) $$ [HS Hs]
  · isplitl [HS]; · iexact HS
    iexact Hs
  rw [hv]
  iintro ⟨HS, Hs⟩
  iapply (send_st m K c k (chunk m c r s) (h, some j, s)) $$ [HS Hs Hd Ht]
  · isplitl [HS]; · iexact HS
    isplitl [Hs]; · iexact Hs
    isplitl [Hd]; · iexact Hd
    iexact Ht
  iexact Hk

theorem prog_assoc (p q r : KProg F PUnit) : (do p; q; r) = (do (do p; q); r) := (Prog.bind_assoc ..).symm

theorem stepFar_run (s : Fin 4) {Q : PUnit → sProp 𝕄} :
    iprop((ready c (false, some 1, s) ∗ ready c (true, some 1, s)) ∗ St m K c (2 * s.val))
      ⊢ iprop((((due c (false, (false, some 1, s)) ∗ due c (false, (true, some 1, s))) ∗ St m K c (2 * (s.val + 1))) -∗ Q ⟨⟩)
        -∗ run c (stepFar c s) Q) := by
  unfold stepFar
  rw [prog_assoc (mul3 (slotA s) false 1 s), run_seq, run_seq, xFar_eq]
  iintro ⟨⟨H0, H1⟩, HS⟩ Hk
  iapply (fetch_st m K c (far c) s (slotA s) _) $$ HS
  iintro HS
  iapply (mul_send m K c (slotA s) (false, some 1, s) false 1 s rfl (far c) rfl) $$ [HS H0]
  · isplitl [HS]; · iexact HS
    iexact H0
  iintro ⟨HS, H0⟩
  iapply (mul_send m K c (slotA s) (true, some 1, s) true 1 s rfl (far c) rfl) $$ [HS H1]
  · isplitl [HS]; · iexact HS
    iexact H1
  iintro ⟨HS, H1⟩
  iapply Hk
  isplitr [HS]
  · isplitl [H0]; · iexact H0
    iexact H1
  iapply (StAt_St m K c (slotA s) _ _) $$ HS

theorem stepNear_run (h : Bool) (s : Fin 4) {Q : PUnit → sProp 𝕄} :
    iprop((ready c (h, some 0, s) ∗ anyAt c (src (!h, none, s))) ∗ St m K c (8 + (2 * s.val + h.toNat)))
      ⊢ iprop((((due c (false, (h, some 0, s)) ∗ at' c (src (!h, none, s)) (part m c (near h c) (!h) s))
          ∗ St m K c (8 + (2 * s.val + h.toNat + 1))) -∗ Q ⟨⟩)
        -∗ run c (stepNear c h s) Q) := by
  have e : 8 + (2 * s.val + h.toNat) = rank (h, some 0, s) := by show _ = 2 * s.val + h.toNat + 8 * (1 - 0); omega
  rw [show 8 + (2 * s.val + h.toNat + 1) = rank (h, some 0, s) + 1 by omega, e]
  unfold stepNear
  rw [prog_assoc (mul3 (slotN h s) h 0 s), run_seq, run_seq, xNear_eq]
  iintro ⟨⟨H0, H1⟩, HS⟩ Hk
  iapply (fetch_st m K c (near h c) s (slotN h s) _) $$ HS
  iintro HS
  iapply (mul_send m K c (slotN h s) (h, some 0, s) h 0 s rfl (near h c) rfl) $$ [HS H0]
  · isplitl [HS]; · iexact HS
    iexact H0
  iintro ⟨HS, H0⟩
  iapply (mul2_st m K c (slotN h s) (!h) s (near h c) _) $$ [HS H1]
  · isplitl [HS]; · iexact HS
    iexact H1
  iintro ⟨HS, H1⟩
  iapply Hk
  isplitr [HS]
  · isplitl [H0]; · iexact H0
    iexact H1
  iapply (StAt_St m K c (slotN h s) _ _) $$ HS

/-- The state about a single copy's wait. -/
theorem St_owed (n : ℕ) : St m K c n ⊢ iprop(ctx m K ∗ Owed c n ∗ (∀ n', Owed c n' -∗ St m K c n')) := by
  unfold St
  iintro ⟨#HC, Hx, Hw, Hp, HO⟩
  isplitr; · iexact HC
  isplitl [HO]; · iexact HO
  iintro %n' HO
  isplitr; · iexact HC
  isplitl [Hx]; · iexact Hx
  isplitl [Hw]; · iexact Hw
  isplitl [Hp]; · iexact Hp
  iexact HO

theorem sent_st (ch : Ch) (n : ℕ) {Q : PUnit → sProp 𝕄} :
    iprop(gone c ch ∗ St m K c n)
      ⊢ iprop(((back c ch (val m c ch) ∗ St m K c n) -∗ Q ⟨⟩) -∗ run c (sent (src ch) (dst ch) (semS ch)) Q) := by
  unfold gone back
  iintro ⟨⟨Hd, Hp⟩, HS⟩ Hk
  ihave HS' := (St_owed m K c n) $$ HS
  icases HS' with ⟨#HC, HO, HS⟩
  iapply (sent_run m K c ch n) $$ [Hd Hp HO]
  · isplitr; · iexact HC
    isplitl [Hd]; · iexact Hd
    isplitl [Hp]; · iexact Hp
    iexact HO
  iintro ⟨Ha, Hs, HO⟩
  iapply Hk
  isplitr [HO HS]
  · isplitl [Ha]; · iexact Ha
    iexact Hs
  iapply HS $$ HO

theorem landed_st (ch : Ch) (n : ℕ) (hn : ∀ ch', n ≤ rank ch' → cellLv (some (some (true, ch))) < cellLv (some (some (true, ch'))))
    {Q : PUnit → sProp 𝕄} :
    iprop(awaited c ch ∗ St m K c n)
      ⊢ iprop(((here m c ch ∗ St m K c n) -∗ Q ⟨⟩) -∗ run c (landed (src ch) (dst ch) (semR ch)) Q) := by
  unfold awaited here
  iintro ⟨⟨Hd, Hp⟩, HS⟩ Hk
  ihave HS' := (St_owed m K c n) $$ HS
  icases HS' with ⟨#HC, HO, HS⟩
  iapply (landed_run m K c ch n hn) $$ [Hd Hp HO]
  · isplitr; · iexact HC
    isplitl [Hd]; · iexact Hd
    isplitl [Hp]; · iexact Hp
    iexact HO
  iintro ⟨Ha, Hs, HO⟩
  iapply Hk
  isplitr [HO HS]
  · isplitl [Ha]; · iexact Ha
    iexact Hs
  iapply HS $$ HO

theorem landed_late (ch : Ch) : ∀ ch', 24 ≤ rank ch' → cellLv (some (some (true, ch))) < cellLv (some (some (true, ch'))) :=
  fun ch' h => absurd (rank_lt ch') (by omega)

theorem stepSum_run (h : Bool) (s : Fin 4) {Q : PUnit → sProp 𝕄} :
    iprop((gone c (h, some 1, s) ∗ awaited c (h, some 1, s) ∗ at' c (src (h, none, s)) (part m c (near (!h) c) h s)
        ∗ anyAt (peer (h, none, s) c) (dst (h, none, s)) ∗ toks c (h, none, s)) ∗ St m K c (16 + (2 * s.val + h.toNat)))
      ⊢ iprop((((back c (h, some 1, s) (val m c (h, some 1, s)) ∗ here m c (h, some 1, s) ∗ due c (false, (h, none, s)))
          ∗ St m K c (16 + (2 * s.val + h.toNat + 1))) -∗ Q ⟨⟩)
        -∗ run c (stepSum c h s) Q) := by
  have e : 16 + (2 * s.val + h.toNat) = rank (h, none, s) := by show _ = 2 * s.val + h.toNat + 16; omega
  rw [show 16 + (2 * s.val + h.toNat + 1) = rank (h, none, s) + 1 by omega, e]
  unfold stepSum
  rw [run_seq, run_seq, run_seq]
  iintro ⟨⟨Hg, Hl, Hs, Hd, Ht⟩, HS⟩ Hk
  iapply (sent_st m K c (h, some 1, s) _) $$ [Hg HS]
  · isplitl [Hg]; · iexact Hg
    iexact HS
  iintro ⟨Hb, HS⟩
  iapply (landed_st m K c (h, some 1, s) (rank (h, none, s)) (fun ch' hr => by
    rw [(recv_lv ch').2 (by rw [← e] at hr; omega)]; exact Nat.lt_succ_self 2)) $$ [Hl HS]
  · isplitl [Hl]; · iexact Hl
    iexact HS
  unfold here
  iintro ⟨⟨Hl, Hv⟩, HS⟩
  iapply (addUp_run c h s _ _) $$ [Hs Hl]
  · isplitl [Hs]; · iexact Hs
    iexact Hl
  iintro ⟨Hs, Hl⟩
  ihave HS' := (St_owed m K c _) $$ HS
  icases HS' with ⟨#HC, HO, HS⟩
  iapply (send_run m K c (h, none, s)) $$ [Hs Hd Ht HO]
  · isplitr; · iexact HC
    isplitl [Hs]; · iexact Hs
    isplitl [Hd]; · iexact Hd
    isplitl [Ht]; · iexact Ht
    iexact HO
  iintro ⟨Hu, HO⟩
  iapply Hk
  isplitr [HO HS]
  · isplitl [Hb]; · iexact Hb
    isplitr [Hu]
    · isplitl [Hl]; · iexact Hl
      iexact Hv
    iexact Hu
  iapply HS $$ HO

/-- The own product, once the segment is back. -/
theorem own_half (k : Fin 4) (h : Bool) (s : Fin 4) {Q : PUnit → sProp 𝕄} :
    iprop(gone c (h, some 0, s) ∗ StAt m K c k (chunk m c c s) 24)
      ⊢ iprop(((back c (h, some 0, s) (part m c c h s) ∗ StAt m K c k (chunk m c c s) 24) -∗ Q ⟨⟩)
        -∗ run c (do sent1 h 0 s; mul3 k h 0 s) Q) := by
  unfold gone back
  rw [run_seq]
  iintro ⟨⟨Hd, Hp⟩, HS⟩ Hk
  unfold StAt
  icases HS with ⟨#HC, Hx, Hw, HO, HS⟩
  iapply (sent_run m K c (h, some 0, s) 24) $$ [Hd Hp HO]
  · isplitr; · iexact HC
    isplitl [Hd]; · iexact Hd
    isplitl [Hp]; · iexact Hp
    iexact HO
  iintro ⟨Ha, Hs, HO⟩
  iapply (mul3_run m c k h 0 s (chunk m c c s)) $$ [Hx Hw Ha]
  · isplitl [Hx]; · iexact Hx
    isplitl [Hw]; · iexact Hw
    iapply (any_of c (src (h, some 0, s)) _) $$ Ha
  iintro ⟨Hx, Hw, Ha⟩
  iapply Hk
  isplitl [Ha Hs]
  · isplitl [Ha]; · iexact Ha
    iexact Hs
  isplitr; · iexact HC
  isplitl [Hx]; · iexact Hx
  isplitl [Hw]; · iexact Hw
  isplitl [HO]; · iexact HO
  iexact HS

theorem stepOwn_run (s : Fin 4) {Q : PUnit → sProp 𝕄} :
    iprop((gone c (false, some 0, s) ∗ gone c (true, some 0, s)) ∗ St m K c 24)
      ⊢ iprop((((back c (false, some 0, s) (part m c c false s) ∗ back c (true, some 0, s) (part m c c true s)) ∗ St m K c 24) -∗ Q ⟨⟩)
        -∗ run c (stepOwn c s) Q) := by
  unfold stepOwn
  rw [prog_assoc (sent1 false 0 s), run_seq, run_seq]
  iintro ⟨⟨H0, H1⟩, HS⟩ Hk
  iapply (fetch_st m K c c s (slotA s) _) $$ HS
  iintro HS
  iapply (own_half m K c (slotA s) false s) $$ [HS H0]
  · isplitl [H0]; · iexact H0
    iexact HS
  iintro ⟨H0, HS⟩
  iapply (own_half m K c (slotA s) true s) $$ [HS H1]
  · isplitl [H1]; · iexact H1
    iexact HS
  iintro ⟨H1, HS⟩
  iapply Hk
  isplitr [HS]
  · isplitl [H0]; · iexact H0
    iexact H1
  iapply (StAt_St m K c (slotA s) _ _) $$ HS

/-- A segment of the result and the semaphore of its copy, -/
def blank (h : Bool) (s : Fin 4) : sProp 𝕄 := iprop(anyAt c (segO h s) ∗ semVal ((c : Thread nD τ), .dma (semO h s)) 0)
/-- and with the result in it. -/
def written (h : Bool) (s : Fin 4) : sProp 𝕄 :=
  iprop(at' c (segO h s) (fin m c h s) ∗ semVal ((c : Thread nD τ), .dma (semO h s)) 0)

theorem stepOut_run (h : Bool) (s : Fin 4) {Q : PUnit → sProp 𝕄} :
    iprop((awaited c (h, some 0, s) ∗ back c (h, some 0, s) (part m c c h s) ∗ gone c (h, none, s) ∗ awaited c (h, none, s) ∗ blank c h s)
        ∗ St m K c 24)
      ⊢ iprop((((here m c (h, some 0, s) ∗ back c (h, some 0, s) (part m c c h s) ∗ shut c (false, (h, none, s)) ∗ here m c (h, none, s)
          ∗ flying c h s (fin m c h s)) ∗ St m K c 24) -∗ Q ⟨⟩)
        -∗ run c (stepOut h s) Q) := by
  unfold stepOut blank
  rw [run_seq, run_seq, run_seq, run_seq]
  iintro ⟨⟨Ha, Hb, Hg, Hl, Ho, Hv⟩, HS⟩ Hk
  iapply (landed_st m K c (h, some 0, s) _ (landed_late _)) $$ [Ha HS]
  · isplitl [Ha]; · iexact Ha
    iexact HS
  iintro ⟨Ha, HS⟩
  iapply (sent_st m K c (h, none, s) _) $$ [Hg HS]
  · isplitl [Hg]; · iexact Hg
    iexact HS
  iintro ⟨Hg, HS⟩
  iapply (landed_st m K c (h, none, s) _ (landed_late _)) $$ [Hl HS]
  · isplitl [Hl]; · iexact Hl
    iexact HS
  iintro ⟨Hl, HS⟩
  unfold here back
  icases Ha with ⟨Ha, Hav⟩
  icases Hb with ⟨Hb, Hbv⟩
  icases Hg with ⟨Hg, Hgv⟩
  icases Hl with ⟨Hl, Hlv⟩
  iapply (finish_run c h s _ _ _) $$ [Ha Hb Hg Hl]
  · isplitl [Hb]; · iexact Hb
    isplitl [Ha]; · iexact Ha
    isplitl [Hl]; · iexact Hl
    iapply (any_of c (src (h, none, s)) _) $$ Hg
  iintro ⟨Hb, Ha, Hl, Hg⟩
  iapply (copyOut_run c h s _) $$ [Hg Ho Hv]
  · isplitl [Hg]; · iexact Hg
    isplitl [Ho]; · iexact Ho
    iexact Hv
  iintro HF
  iapply Hk
  isplitr [HS]
  · isplitl [Ha Hav]
    · isplitl [Ha]; · iexact Ha
      iexact Hav
    isplitl [Hb Hbv]
    · isplitl [Hb]; · iexact Hb
      iexact Hbv
    isplitl [Hgv]; · iexact Hgv
    isplitl [Hl Hlv]
    · isplitl [Hl]; · iexact Hl
      iexact Hlv
    iexact HF
  iexact HS

theorem stepEnd_run (h : Bool) (s : Fin 4) {Q : PUnit → sProp 𝕄} :
    iprop(flying c h s (fin m c h s) ∗ St m K c 24)
      ⊢ iprop((((written m c h s ∗ anyAt c (src (h, none, s))) ∗ St m K c 24) -∗ Q ⟨⟩)
        -∗ run c (copied h s) Q) := by
  unfold written
  iintro ⟨HF, HS⟩ Hk
  ihave HS' := (St_owed m K c _) $$ HS
  icases HS' with ⟨#HC, HO, HS⟩
  iapply (copied_run m K c h s _ 24) $$ [HF HO]
  · isplitr; · iexact HC
    isplitl [HF]; · iexact HF
    iexact HO
  iintro ⟨Ho, Hs, Hv, HO⟩
  iapply Hk
  isplitr [HO HS]
  · isplitr [Hs]
    · isplitl [Ho]; · iexact Ho
      iexact Hv
    ihave Hs := (any_of c (seg2 (sumM h) s) (fin m c h s)) $$ Hs
    iexact Hs
  iapply HS $$ HO

end Cert.KernelIdeal.Dist
-- ==== Proof.Body.lean ====
/-
# The kernel on one device

The barrier and the steps in their order: from everything a device is given to the result, every semaphore back at zero.
-/
module

public import proofs.«01_k».proof.Proof.Steps

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ) (c : Dev nD)

omit [FloatOps F] in
/-- The channels by what goes over them: far products, near products, second sums. -/
theorem by_kind (Φ : Ch → sProp 𝕄) :
    bigSep Finset.univ Φ
      = iprop(all (fun h s => Φ (h, some 1, s)) ∗ all (fun h s => Φ (h, some 0, s)) ∗ all (fun h s => Φ (h, none, s))) := by
  have h3 : ∀ h, (bigSep Finset.univ fun x : Option (Fin 2) × Fin 4 => Φ (h, x))
      = iprop((bigSep Finset.univ fun s => Φ (h, some 1, s)) ∗ (bigSep Finset.univ fun s => Φ (h, some 0, s))
        ∗ bigSep Finset.univ fun s => Φ (h, none, s)) := fun h => by
    rw [bigSep_univ_prod, bigSep_univ_eq_bigSepL [some 1, some 0, none] (by decide) (by decide)]
    rfl
  unfold all
  rw [bigSep_univ_prod, bigSep_univ_eq_bigSepL [false, true] (by decide) (by decide), bigSep_sep', bigSep_sep', bigSep_sep']
  show iprop((bigSep Finset.univ fun x : Option (Fin 2) × Fin 4 => Φ (false, x))
    ∗ bigSep Finset.univ fun x : Option (Fin 2) × Fin 4 => Φ (true, x)) = _
  rw [h3, h3]
  exact to_eq
    (by
      iintro ⟨⟨A, B, C⟩, A', B', C'⟩
      isplitl [A A']
      · isplitl [A]; · iexact A
        iexact A'
      isplitl [B B']
      · isplitl [B]; · iexact B
        iexact B'
      isplitl [C]; · iexact C
      iexact C')
    (by
      iintro ⟨⟨A, A'⟩, ⟨B, B'⟩, C, C'⟩
      isplitl [A B C]
      · isplitl [A]; · iexact A
        isplitl [B]; · iexact B
        iexact C
      isplitl [A']; · iexact A'
      isplitl [B']; · iexact B'
      iexact C')

/-- After the barrier: a channel before its copy, the near device's copy still to come. -/
def chPre (ch : Ch) : sProp 𝕄 := iprop(ready c ch ∗ pos c (false, ch) ∗ awaited c ch)
/-- A channel at the end. -/
def chPost (ch : Ch) : sProp 𝕄 := iprop(anyAt c (src ch) ∗ anyAt c (dst ch) ∗ shut c (false, ch) ∗ shut c (true, ch))

/-- The second sums' own products, by the half they belong to. -/
theorem sums_not : (all fun h s => (at' c (src (!h, none, s)) (part m c (near h c) (!h) s) : sProp 𝕄))
    = all fun h s => at' c (src (h, none, s)) (part m c (near (!h) c) h s) := by
  rw [← all_not (fun h s => (at' c (src (h, none, s)) (part m c (near (!h) c) h s) : sProp 𝕄))]
  simp only [Bool.not_not]

/-! ## Each step at all segments -/

theorem far_all (Q : PUnit → sProp 𝕄) :
    iprop(all (fun h s => ready c (h, some 1, s)) ∗ St m K c 0)
      ⊢ iprop(((all (fun h s => due c (false, (h, some 1, s))) ∗ St m K c 8) -∗ Q ⟨⟩) -∗ run c (segs (stepFar c)) Q) := by
  have t := segs_run c (f := stepFar c) (A := fun s => iprop(ready c (false, some 1, s) ∗ ready c (true, some 1, s)))
    (B := fun s => iprop(due c (false, (false, some 1, s)) ∗ due c (false, (true, some 1, s))))
    (S := fun n => St m K c (2 * n)) (Q := Q) fun s Q => stepFar_run m K c s
  unfold all
  exact t

theorem near_all (Q : PUnit → sProp 𝕄) :
    iprop((all (fun h s => ready c (h, some 0, s)) ∗ all (fun h s => anyAt c (src (h, none, s)))) ∗ St m K c 8)
      ⊢ iprop((((all (fun h s => due c (false, (h, some 0, s))) ∗ all (fun h s => at' c (src (h, none, s)) (part m c (near (!h) c) h s)))
          ∗ St m K c 16) -∗ Q ⟨⟩) -∗ run c (segs fun s => both fun h => stepNear c h s) Q) := by
  have t := all_run c (S := fun n => St m K c (8 + n)) (Q := Q) fun h s Q => stepNear_run m K c h s
  rw [all_sep, all_sep, sums_not, all_not (fun h s => anyAt c (src (h, none, s)))] at t
  exact t

theorem sum_all (Q : PUnit → sProp 𝕄) :
    iprop((all (fun h s => gone c (h, some 1, s)) ∗ all (fun h s => awaited c (h, some 1, s))
        ∗ all (fun h s => at' c (src (h, none, s)) (part m c (near (!h) c) h s))
        ∗ all (fun h s => anyAt (peer (h, none, s) c) (dst (h, none, s))) ∗ all (fun h s => toks c (h, none, s))) ∗ St m K c 16)
      ⊢ iprop((((all (fun h s => back c (h, some 1, s) (val m c (h, some 1, s))) ∗ all (fun h s => here m c (h, some 1, s))
          ∗ all (fun h s => due c (false, (h, none, s)))) ∗ St m K c 24) -∗ Q ⟨⟩)
        -∗ run c (segs fun s => both fun h => stepSum c h s) Q) := by
  have t := all_run c (S := fun n => St m K c (16 + n)) (Q := Q) fun h s Q => stepSum_run m K c h s
  rw [all_sep, all_sep, all_sep, all_sep, all_sep, all_sep] at t
  exact t

theorem own_all (Q : PUnit → sProp 𝕄) :
    iprop(all (fun h s => gone c (h, some 0, s)) ∗ St m K c 24)
      ⊢ iprop(((all (fun h s => back c (h, some 0, s) (part m c c h s)) ∗ St m K c 24) -∗ Q ⟨⟩) -∗ run c (segs (stepOwn c)) Q) := by
  have t := segs_run c (f := stepOwn c) (A := fun s => iprop(gone c (false, some 0, s) ∗ gone c (true, some 0, s)))
    (B := fun s => iprop(back c (false, some 0, s) (part m c c false s) ∗ back c (true, some 0, s) (part m c c true s)))
    (S := fun _ => St m K c 24) (Q := Q) fun s Q => stepOwn_run m K c s
  unfold all
  exact t

theorem out_all (Q : PUnit → sProp 𝕄) :
    iprop((all (fun h s => awaited c (h, some 0, s)) ∗ all (fun h s => back c (h, some 0, s) (part m c c h s))
        ∗ all (fun h s => gone c (h, none, s)) ∗ all (fun h s => awaited c (h, none, s)) ∗ all (blank c)) ∗ St m K c 24)
      ⊢ iprop((((all (fun h s => here m c (h, some 0, s)) ∗ all (fun h s => back c (h, some 0, s) (part m c c h s))
          ∗ all (fun h s => shut c (false, (h, none, s))) ∗ all (fun h s => here m c (h, none, s))
          ∗ all (fun h s => flying c h s (fin m c h s))) ∗ St m K c 24) -∗ Q ⟨⟩)
        -∗ run c (segs fun s => both fun h => stepOut h s) Q) := by
  have t := all_run c (S := fun _ => St m K c 24) (Q := Q) fun h s Q => stepOut_run m K c h s
  rw [all_sep, all_sep, all_sep, all_sep, all_sep, all_sep, all_sep, all_sep] at t
  exact t

theorem end_all (Q : PUnit → sProp 𝕄) :
    iprop(all (fun h s => flying c h s (fin m c h s)) ∗ St m K c 24)
      ⊢ iprop((((all (written m c) ∗ all (fun h s => anyAt c (src (h, none, s)))) ∗ St m K c 24) -∗ Q ⟨⟩)
        -∗ run c (segs fun s => both fun h => copied h s) Q) := by
  have t := all_run c (S := fun _ => St m K c 24) (Q := Q) fun h s Q => stepEnd_run m K c h s
  rw [all_sep] at t
  exact t

theorem all_gone (ch : Bool → Fin 4 → Ch) :
    (iprop(all (fun h s => due c (false, ch h s)) ∗ all (fun h s => pos c (false, ch h s))) : sProp 𝕄) ⊢ all (fun h s => gone c (ch h s)) :=
  Entails.of_eq (all_sep _ _).symm
theorem all_ready (ch : Bool → Fin 4 → Ch) :
    (all (fun h s => ready c (ch h s)) : sProp 𝕄)
      ⊢ iprop(all (fun h s => anyAt c (src (ch h s))) ∗ all (fun h s => anyAt (peer (ch h s) c) (dst (ch h s))) ∗ all (fun h s => toks c (ch h s))) := by
  rw [← all_sep, ← all_sep]; exact .rfl
theorem all_back (ch : Bool → Fin 4 → Ch) (X : Bool → Fin 4 → Vec F S256x1024 .f32) :
    (all (fun h s => back c (ch h s) (X h s)) : sProp 𝕄)
      ⊢ iprop(all (fun h s => anyAt c (src (ch h s))) ∗ all (fun h s => shut c (false, ch h s))) := by
  rw [← all_sep]
  exact all_mono fun h s => BIClass.sep_mono (any_of c _ _) .rfl
theorem all_here (ch : Bool → Fin 4 → Ch) :
    (all (fun h s => here m c (ch h s)) : sProp 𝕄)
      ⊢ iprop(all (fun h s => anyAt c (dst (ch h s))) ∗ all (fun h s => shut c (true, ch h s))) := by
  rw [← all_sep]
  exact all_mono fun h s => BIClass.sep_mono (any_of c _ _) .rfl

/-! ## All steps -/

/-- What follows the barrier. -/
def rest (d : Dev nD) : KProg F PUnit := do
  segs (stepFar d)
  segs fun s => both fun h => stepNear d h s
  segs fun s => both fun h => stepSum d h s
  segs (stepOwn d)
  segs fun s => both fun h => stepOut h s
  segs fun s => both fun h => copied h s

theorem by_kind_pre :
    bigSep Finset.univ (chPre c) = (iprop((all (fun h s => ready c (h, some 1, s)) ∗ all (fun h s => pos c (false, (h, some 1, s))) ∗ all (fun h s => awaited c (h, some 1, s)))
      ∗ (all (fun h s => ready c (h, some 0, s)) ∗ all (fun h s => pos c (false, (h, some 0, s))) ∗ all (fun h s => awaited c (h, some 0, s)))
      ∗ (all (fun h s => ready c (h, none, s)) ∗ all (fun h s => pos c (false, (h, none, s))) ∗ all (fun h s => awaited c (h, none, s)))) : sProp 𝕄) := by
  rw [by_kind]; unfold chPre
  rw [all_sep, all_sep, all_sep, all_sep, all_sep, all_sep]

theorem by_kind_post :
    bigSep Finset.univ (chPost c) = (iprop((all (fun h s => anyAt c (src (h, some 1, s))) ∗ all (fun h s => anyAt c (dst (h, some 1, s))) ∗ all (fun h s => shut c (false, (h, some 1, s))) ∗ all (fun h s => shut c (true, (h, some 1, s))))
      ∗ (all (fun h s => anyAt c (src (h, some 0, s))) ∗ all (fun h s => anyAt c (dst (h, some 0, s))) ∗ all (fun h s => shut c (false, (h, some 0, s))) ∗ all (fun h s => shut c (true, (h, some 0, s))))
      ∗ (all (fun h s => anyAt c (src (h, none, s))) ∗ all (fun h s => anyAt c (dst (h, none, s))) ∗ all (fun h s => shut c (false, (h, none, s))) ∗ all (fun h s => shut c (true, (h, none, s))))) : sProp 𝕄) := by
  rw [by_kind]; unfold chPost
  rw [all_sep, all_sep, all_sep, all_sep, all_sep, all_sep, all_sep, all_sep, all_sep]

theorem main_run {Q : PUnit → sProp 𝕄} :
    iprop(bigSep Finset.univ (chPre c) ∗ all (blank c) ∗ St m K c 0)
      ⊢ iprop(((bigSep Finset.univ (chPost c) ∗ all (written m c) ∗ St m K c 24) -∗ Q ⟨⟩)
        -∗ run c (rest c) Q) := by
  unfold rest
  rw [by_kind_pre, by_kind_post, run_seq, run_seq, run_seq, run_seq, run_seq]
  iintro ⟨⟨⟨R1, P1, A1⟩, ⟨R0, P0, A0⟩, ⟨R2, P2, A2⟩⟩, HB, HS⟩ Hk
  iapply (far_all m K c _) $$ [R1 HS]
  · isplitl [R1]; · iexact R1
    iexact HS
  iintro ⟨D1, HS⟩
  ihave R2' := (all_ready c (fun h s => (h, none, s))) $$ R2
  icases R2' with ⟨S2, L2, T2⟩
  iapply (near_all m K c _) $$ [R0 S2 HS]
  · isplitl [R0 S2]
    · isplitl [R0]; · iexact R0
      iexact S2
    iexact HS
  iintro ⟨⟨D0, S2⟩, HS⟩
  iapply (sum_all m K c _) $$ [D1 P1 A1 S2 L2 T2 HS]
  · isplitr [HS]
    · isplitl [D1 P1]
      · iapply (all_gone c (fun h s => (h, some 1, s)))
        isplitl [D1]; · iexact D1
        iexact P1
      isplitl [A1]; · iexact A1
      isplitl [S2]; · iexact S2
      isplitl [L2]; · iexact L2
      iexact T2
    iexact HS
  iintro ⟨⟨B1, H1, D2⟩, HS⟩
  iapply (own_all m K c _) $$ [D0 P0 HS]
  · isplitl [D0 P0]
    · iapply (all_gone c (fun h s => (h, some 0, s)))
      isplitl [D0]; · iexact D0
      iexact P0
    iexact HS
  iintro ⟨B0, HS⟩
  iapply (out_all m K c _) $$ [A0 B0 D2 P2 A2 HB HS]
  · isplitr [HS]
    · isplitl [A0]; · iexact A0
      isplitl [B0]; · iexact B0
      isplitl [D2 P2]
      · iapply (all_gone c (fun h s => (h, none, s)))
        isplitl [D2]; · iexact D2
        iexact P2
      isplitl [A2]; · iexact A2
      iexact HB
    iexact HS
  iintro ⟨⟨H0, B0, V2, H2, HF⟩, HS⟩
  iapply (end_all m K c _) $$ [HF HS]
  · isplitl [HF]; · iexact HF
    iexact HS
  iintro ⟨⟨HW, S2⟩, HS⟩
  ihave B1 := (all_back c (fun h s => (h, some 1, s)) (fun h s => val m c (h, some 1, s))) $$ B1
  ihave B0 := (all_back c (fun h s => (h, some 0, s)) (part m c c)) $$ B0
  ihave H1 := (all_here m c (fun h s => (h, some 1, s))) $$ H1
  ihave H0 := (all_here m c (fun h s => (h, some 0, s))) $$ H0
  ihave H2 := (all_here m c (fun h s => (h, none, s))) $$ H2
  icases B1 with ⟨B1, B1v⟩
  icases B0 with ⟨B0, B0v⟩
  icases H1 with ⟨H1, H1v⟩
  icases H0 with ⟨H0, H0v⟩
  icases H2 with ⟨H2, H2v⟩
  iapply Hk
  isplitr [HW HS]
  · isplitl [B1 B1v H1 H1v]
    · isplitl [B1]; · iexact B1
      isplitl [H1]; · iexact H1
      isplitl [B1v]; · iexact B1v
      iexact H1v
    isplitl [B0 B0v H0 H0v]
    · isplitl [B0]; · iexact B0
      isplitl [H0]; · iexact H0
      isplitl [B0v]; · iexact B0v
      iexact H0v
    isplitl [S2]; · iexact S2
    isplitl [H2]; · iexact H2
    isplitl [V2]; · iexact V2
    iexact H2v
  isplitl [HW]; · iexact HW
  iexact HS

/-- Before the barrier: a channel's own segment, the copy's duties, and the waits to come. -/
def chInit (ch : Ch) : sProp 𝕄 := iprop(anyAt c (src ch) ∗ toks c ch ∗ pos c (false, ch) ∗ awaited c ch)

theorem chInit_pre (ch : Ch) : (iprop(chInit c ch ∗ anyAt (peer ch c) (dst ch)) : sProp 𝕄) ⊢ chPre c ch := by
  unfold chInit chPre ready
  iintro ⟨⟨Hs, Ht, Hp, Ha⟩, Hl⟩
  isplitl [Hs Hl Ht]
  · isplitl [Hs]; · iexact Hs
    isplitl [Hl]; · iexact Hl
    iexact Ht
  isplitl [Hp]; · iexact Hp
  iexact Ha

theorem body_run {Q : PUnit → sProp 𝕄} :
    iprop(ctx m K ∗ (xPts m c ∗ wPts m c ∗ bigSep Finset.univ fun k => place c k) ∗ all (blank c) ∗ bigSep Finset.univ (chInit c) ∗ ownLand c
        ∗ (∃ W, owes (c : Thread nD τ) (O₀ c) W)
        ∗ dutyTok ER (barCell (near false c)) 0 false ∗ dutyTok ER (barCell (near true c)) 0 true
        ∗ cred (tallyAt (barCell c) () 2) ∗ atPos ER (barCell c) 0 ∅ 0)
      ⊢ iprop((((xPts m c ∗ wPts m c ∗ bigSep Finset.univ fun k => place c k) ∗ all (written m c) ∗ bigSep Finset.univ (chPost c)
          ∗ semVal (barCell c) 0 ∗ ∃ W, owes (c : Thread nD τ) (0 : CellTallies nD τ sig Unit) W) -∗ Q ⟨⟩)
        -∗ run c body Q) := by
  rw [show run c body Q = run c (do barrier c; rest c) Q from wp_deviceId .., run_seq]
  iintro ⟨#HC, ⟨Hx, Hw, Hp⟩, HB, HI, HL, HO, T0, T1, Hd, Ha⟩ Hk
  iapply (barrier_run m K c) $$ [HL HO T0 T1 Hd Ha]
  · isplitr; · iexact HC
    isplitl [HL]; · iexact HL
    isplitl [HO]; · iexact HO
    isplitl [T0]; · iexact T0
    isplitl [T1]; · iexact T1
    isplitl [Hd]; · iexact Hd
    iexact Ha
  iintro ⟨HL, Hv, HO⟩
  iapply (main_run m K c) $$ [HI HL HB Hx Hw Hp HO]
  · isplitl [HI HL]
    · unfold peerLand
      ihave H := (Entails.of_eq (bigSep_sep' Finset.univ (chInit c) (fun ch => anyAt (peer ch c) (dst ch))).symm) $$ [HI HL]
      · isplitl [HI]; · iexact HI
        iexact HL
      iapply (show bigSep Finset.univ (fun ch => iprop(chInit c ch ∗ anyAt (peer ch c) (dst ch))) ⊢ bigSep Finset.univ (chPre c) from
        bigSep_mono fun ch _ => chInit_pre c ch) $$ H
    isplitl [HB]; · iexact HB
    unfold St
    isplitr; · iexact HC
    isplitl [Hx]; · iexact Hx
    isplitl [Hw]; · iexact Hw
    isplitl [Hp]; · iexact Hp
    iexact HO
  unfold St Owed
  rw [owedFrom_end]
  iintro ⟨HI, HB, -, Hx, Hw, Hp, HO⟩
  iapply Hk
  isplitl [Hx Hw Hp]
  · isplitl [Hx]; · iexact Hx
    isplitl [Hw]; · iexact Hw
    iexact Hp
  isplitl [HB]; · iexact HB
  isplitl [HI]; · iexact HI
  isplitl [Hv]; · iexact Hv
  iexact HO

end Cert.KernelIdeal.Dist
-- ==== Proof.Buffers.lean ====
/-
# Buffers and their segments

The launch gives a device whole buffers; the proof works with their segments. Here the one is turned into the other: the
products, the second sums, their landing places, the landing places of the chunks, and the result, whose eight segments
together are the array `outAt`.
-/
module

public import proofs.«01_k».proof.Proof.Body

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Families of rectangles that tile a shape -/

/-- A family of rectangles with the rectangle of every element named. -/
structure Tiled {S : Shape} {T : Type} (r : T → Rect S) (f : S.Idx → T) : Prop where
  unit : ∀ t a, (r t).stride a = 1
  mem : ∀ t x, x ∈ (r t).set ↔ f x = t

theorem Tiled.disjoint {S : Shape} {T : Type} {r : T → Rect S} {f : S.Idx → T} (h : Tiled r f) (t t' : T) (ne : t ≠ t') :
    Disjoint (r t).set (r t').set :=
  Finset.disjoint_left.mpr fun x hx hx' => ne (((h.mem t x).mp hx).symm.trans ((h.mem t' x).mp hx'))

theorem Tiled.cover {S : Shape} {T : Type} [Fintype T] {r : T → Rect S} {f : S.Idx → T} (h : Tiled r f) :
    (Finset.univ : Finset T).biUnion (fun t => (r t).set) = Finset.univ :=
  Finset.eq_univ_iff_forall.mpr fun x => Finset.mem_biUnion.mpr ⟨f x, Finset.mem_univ _, (h.mem _ x).mpr rfl⟩

theorem tiled3 : Tiled (fun t : Fin 2 × Fin 4 => rect3 t.1 t.2)
    (fun x => (⟨(x 0).val, (x 0).isLt⟩, ⟨(x 1).val / 256, by have : (x 1).val < 1024 := (x 1).isLt; omega⟩)) where
  unit _ _ := rfl
  mem := fun ⟨j, s⟩ x => by
    have h0 : (x 0).val < 2 := (x 0).isLt
    have h1 : (x 1).val < 1024 := (x 1).isLt
    have h2 : (x 2).val < 1024 := (x 2).isLt
    rw [Rect.mem_set_unit, Fin.forall_fin_succ, Fin.forall_fin_succ, Fin.forall_fin_succ, Prod.mk.injEq, Fin.ext_iff, Fin.ext_iff]
    show ((j.val ≤ (x 0).val ∧ (x 0).val < j.val + 1) ∧ (256 * s.val ≤ (x 1).val ∧ (x 1).val < 256 * s.val + 256)
      ∧ (0 ≤ (x 2).val ∧ (x 2).val < 0 + 1024) ∧ _) ↔ (x 0).val = j.val ∧ (x 1).val / 256 = s.val
    constructor
    · rintro ⟨ha, hb, -⟩; omega
    · rintro ⟨ha, hb⟩; exact ⟨by omega, by omega, by omega, fun i => i.elim0⟩

theorem tiled2 : Tiled (fun s : Fin 4 => rect2 s)
    (fun x => ⟨(x 0).val / 256, by have : (x 0).val < 1024 := (x 0).isLt; omega⟩) where
  unit _ _ := rfl
  mem s x := by
    have h0 : (x 0).val < 1024 := (x 0).isLt
    have h1 : (x 1).val < 1024 := (x 1).isLt
    rw [Rect.mem_set_unit, Fin.forall_fin_two, Fin.ext_iff]
    show ((256 * s.val ≤ (x 0).val ∧ (x 0).val < 256 * s.val + 256) ∧ (0 ≤ (x 1).val ∧ (x 1).val < 0 + 1024)) ↔ (x 0).val / 256 = s.val
    omega

theorem tiledSlot : Tiled (fun k : Fin 4 => rectSlot k) (fun x => ⟨(x 0).val, (x 0).isLt⟩) where
  unit _ _ := rfl
  mem k x := by
    have h1 : (x 1).val < 256 := (x 1).isLt
    have h2 : (x 2).val < 1024 := (x 2).isLt
    rw [Rect.mem_set_unit, Fin.forall_fin_succ, Fin.forall_fin_succ, Fin.forall_fin_succ, Fin.ext_iff]
    show ((k.val ≤ (x 0).val ∧ (x 0).val < k.val + 1) ∧ (0 ≤ (x 1).val ∧ (x 1).val < 0 + 256)
      ∧ (0 ≤ (x 2).val ∧ (x 2).val < 0 + 1024) ∧ _) ↔ (x 0).val = k.val
    constructor
    · rintro ⟨ha, -⟩; omega
    · intro ha; exact ⟨by omega, by omega, by omega, fun i => i.elim0⟩

/-- The segment and the half of an element of the result. -/
def ofO (x : S1024x2048.Idx) : Fin 4 × Bool :=
  (⟨(x 0).val / 256, by have : (x 0).val < 1024 := (x 0).isLt; omega⟩, decide (1024 ≤ (x 1).val))

theorem tiledO : Tiled (fun t : Fin 4 × Bool => rectO t.2 t.1) ofO where
  unit _ _ := rfl
  mem := fun ⟨s, h⟩ x => by
    have h0 : (x 0).val < 1024 := (x 0).isLt
    have h1 : (x 1).val < 2048 := (x 1).isLt
    unfold ofO
    rw [Rect.mem_set_unit, Fin.forall_fin_two, Prod.mk.injEq, Fin.ext_iff]
    show ((256 * s.val ≤ (x 0).val ∧ (x 0).val < 256 * s.val + 256)
      ∧ (1024 * h.toNat ≤ (x 1).val ∧ (x 1).val < 1024 * h.toNat + 1024)) ↔ (x 0).val / 256 = s.val ∧ decide (1024 ≤ (x 1).val) = h
    cases h
    · rw [decide_eq_false_iff_not, Bool.toNat_false]; omega
    · rw [decide_eq_true_iff, Bool.toNat_true]; omega

variable (m : (ℓ : Loc nD τ sig) → Buf (Elt F) ℓ) (c : Dev nD)

/-! ## Whole buffers and parts, at any contents -/

theorem any_parts {sp : Space} {S : Shape} {e : EltTy} (M : Memref sig .tc sp S e) {T : Type} [Fintype T] [DecidableEq T]
    {r : T → Rect S} {f : S.Idx → T} (h : Tiled r f) :
    (anyAt c M : sProp 𝕄) = bigSep Finset.univ fun t => anyAt c (M.slice (r t) (h.unit t)) := by
  unfold anyAt
  have there := ownsSat_rects (Val := Elt F) (Ix := Unit) (Name := ℕ) (U := UU) (Lvl := ℕ) (c : Thread nD τ) M fullShare r h.unit h.disjoint h.cover
    (fun _ _ => True)
  have back := ownsSat_of_rects (Val := Elt F) (Ix := Unit) (Name := ℕ) (U := UU) (Lvl := ℕ) (c : Thread nD τ) M fullShare r h.unit h.disjoint h.cover
    (fun _ _ => True)
  refine to_eq ?_ ?_
  · refine BIBase.Entails.trans ?_ (there.trans (bigSep_mono fun t _ => (ownsSat_true _ _ _).1))
    iintro ⟨%X, H⟩
    iapply (ownsSat_intro (c : Thread nD τ) M fullShare (X := X) fun _ => trivial) $$ H
  · exact (bigSep_mono fun t _ => (ownsSat_true _ _ _).2).trans (back.trans (ownsSat_any _ _ _))

theorem any_squeeze {S t : Shape} {e : EltTy} (M : Memref sig .tc .vmem S e) {r : Rect S} (hr : ∀ a, r.stride a = 1)
    (h : r.shape.Squeezes t) : (anyAt c ((M.slice r hr).squeeze t h) : sProp 𝕄) = anyAt c (M.slice r hr) := by
  refine to_eq (any_squeezed (M := M) (hr := hr) (h := h) c) ?_
  unfold anyAt
  iintro ⟨%X, H⟩
  iexists (fun i => X (Shape.reshapeEquiv h.numel_eq i))
  iapply (Entails.of_eq (owns_squeeze c (M.slice r hr) h fullShare X).symm) $$ H

theorem any_seg3 (M : Memref sig .tc .vmem S2x1024x1024 .f32) :
    (anyAt c M : sProp 𝕄) = bigSep Finset.univ fun t : Fin 2 × Fin 4 => anyAt c (seg3 M t.1 t.2) := by
  rw [any_parts c M tiled3]
  exact bigSep_congr fun t _ => (any_squeeze c M _ _).symm

theorem any_seg2 (M : Memref sig .tc .vmem S1024x1024 .f32) :
    (anyAt c M : sProp 𝕄) = bigSep Finset.univ fun s : Fin 4 => anyAt c (seg2 M s) := any_parts c M tiled2

theorem any_slots : (anyAt c slotM : sProp 𝕄) = bigSep Finset.univ fun k : Fin 4 => anyAt c (slot k) := by
  rw [any_parts c slotM tiledSlot]
  exact bigSep_congr fun t _ => (any_squeeze c slotM _ _).symm

theorem any_segO : (anyAt c oM : sProp 𝕄) = all fun h s => anyAt c (segO h s) := by
  rw [any_parts c oM tiledO, bigSep_univ_prod]
  unfold all
  exact bigSep_congr fun s _ => by
    rw [bigSep_univ_eq_bigSepL [false, true] (by decide) (by decide)]; rfl

omit [FloatOps F] in
theorem by_option (Φ : Option (Fin 2) × Fin 4 → sProp 𝕄) :
    bigSep Finset.univ Φ
      = iprop((bigSep Finset.univ fun t : Fin 2 × Fin 4 => Φ (some t.1, t.2)) ∗ bigSep Finset.univ fun s => Φ (none, s)) := by
  rw [bigSep_univ_prod, bigSep_univ_prod, bigSep_univ_eq_bigSepL [some 0, some 1, none] (by decide) (by decide),
    bigSep_univ_eq_bigSepL [(0 : Fin 2), 1] (by decide) (by decide)]
  exact to_eq sep_assoc.2 sep_assoc.1

omit [FloatOps F] in
theorem by_half (Φ : Ch → sProp 𝕄) :
    bigSep Finset.univ Φ = iprop((bigSep Finset.univ fun x => Φ (false, x)) ∗ bigSep Finset.univ fun x => Φ (true, x)) := by
  rw [bigSep_univ_prod, bigSep_univ_eq_bigSepL [false, true] (by decide) (by decide)]
  rfl

theorem any_src : (bigSep Finset.univ fun ch : Ch => (anyAt c (src ch) : sProp 𝕄))
    = iprop((anyAt c (prodM false) ∗ anyAt c (sumM false)) ∗ anyAt c (prodM true) ∗ anyAt c (sumM true)) := by
  rw [by_half, by_option, by_option, any_seg3, any_seg3, any_seg2, any_seg2]; rfl
theorem any_dst : (ownLand c : sProp 𝕄)
    = iprop((anyAt c (landM false) ∗ anyAt c (land2M false)) ∗ anyAt c (landM true) ∗ anyAt c (land2M true)) := by
  unfold ownLand
  rw [by_half, by_option, by_option, any_seg3, any_seg3, any_seg2, any_seg2]; rfl

omit [FloatOps F] in
theorem whole_any (b : Ref sig .tc) :
    (iprop(∃ f : Buf (Elt F) ((c : Thread nD τ).loc b), ((c : Thread nD τ).loc b) ↦{fullShare} f) : sProp 𝕄) = anyAt c (Memref.whole b) := by
  unfold anyAt
  refine to_eq ?_ ?_
  · iintro ⟨%f, H⟩
    iexists f
    iapply (Entails.of_eq (owns_whole (c : Thread nD τ) b fullShare f).symm) $$ H
  · iintro ⟨%f, H⟩
    iexists f
    iapply (Entails.of_eq (owns_whole (c : Thread nD τ) b fullShare f)) $$ H

/-- The kernel's scratch buffers, by what they are for. -/
theorem scratch_eq :
    (Pipeline.scopedRest (Ix := Unit) (Name := ℕ) (U := UU) (Lvl := ℕ) (Val := Elt F) spec0 c : sProp 𝕄)
      = iprop((bigSep Finset.univ fun ch : Ch => anyAt c (src ch)) ∗ ownLand c ∗ bigSep Finset.univ fun k : Fin 4 => anyAt c (slot k)) := by
  rw [scopedRest0_eq]
  simp only [whole_any]
  rw [any_src, any_dst, ← any_slots]
  refine to_eq ?_ ?_
  · iintro ⟨H0, H1, H2, H3, H4, H5, H6, H7, H8⟩
    isplitl [H0 H1 H4 H5]
    · isplitl [H0 H4]
      · isplitl [H0]; · iexact H0
        iexact H4
      isplitl [H1]; · iexact H1
      iexact H5
    isplitl [H2 H3 H6 H7]
    · isplitl [H2 H6]
      · isplitl [H2]; · iexact H2
        iexact H6
      isplitl [H3]; · iexact H3
      iexact H7
    iexact H8
  · iintro ⟨⟨⟨H0, H4⟩, H1, H5⟩, ⟨⟨H2, H6⟩, H3, H7⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The result -/

/-- Device `c`'s result: its eight segments. -/
def outAt : S1024x2048.Idx → Elt F .f32 :=
  Rect.glue (fun t : Fin 4 × Bool => rectO t.2 t.1) tiledO.cover fun t => fin m c t.2 t.1

theorem outAt_emb (h : Bool) (s : Fin 4) (j : S256x1024.Idx) : outAt m c ((rectO h s).emb j) = fin m c h s j :=
  Rect.glue_emb (fun t : Fin 4 × Bool => rectO t.2 t.1) tiledO.cover tiledO.disjoint (fun t => fin m c t.2 t.1) (s, h) j

theorem result_whole : (all (fun h s => at' c (segO h s) (fin m c h s)) : sProp 𝕄) ⊢ at' c oM (outAt m c) := by
  have back := owns_of_rects (Val := Elt F) (Ix := Unit) (Name := ℕ) (U := UU) (Lvl := ℕ) (c : Thread nD τ) oM fullShare
    (fun t : Fin 4 × Bool => rectO t.2 t.1) tiledO.unit tiledO.disjoint tiledO.cover (outAt m c)
  refine Entails.trans (Entails.of_eq ?_) back
  rw [bigSep_univ_prod]
  unfold all
  refine bigSep_congr fun s _ => ?_
  rw [bigSep_univ_eq_bigSepL [false, true] (by decide) (by decide)]
  have e : ∀ h, (at' c (segO h s) (fin m c h s) : sProp 𝕄) = at' c (segO h s) (fun j => outAt m c ((rectO h s).emb j)) :=
    fun h => congrArg (at' c (segO h s)) (funext fun j => (outAt_emb m c h s j).symm)
  exact congrArg₂ (fun A B => iprop(A ∗ B)) (e false) (e true)

end Cert.KernelIdeal.Dist

end
-- ==== Proof.Ghost.lean ====
/-
# The ghost state at launch

Every device starts with the invariants of all cells, its own positions, the duties it will discharge, and the credits of
what the other devices owe it. The duties are minted at the cell that is signalled and dealt to the device that signals.
-/
module

public import proofs.«01_k».proof.Proof.Buffers

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Conjunctions over a sum and over an option -/

omit [FloatOps F] in
theorem by_sum {I J : Type} [Fintype I] [Fintype J] (Φ : I ⊕ J → sProp 𝕄) :
    bigSep Finset.univ Φ = iprop((bigSep Finset.univ fun a => Φ (.inl a)) ∗ bigSep Finset.univ fun b => Φ (.inr b)) := bigSep_univ_sum Φ

omit [FloatOps F] in
theorem by_opt {I : Type} [Fintype I] (Φ : Option I → sProp 𝕄) :
    bigSep Finset.univ Φ = iprop(Φ none ∗ bigSep Finset.univ fun x => Φ (some x)) := by
  rw [bigSep_univ_equiv (Equiv.optionEquivSumPUnit.{0} I).symm, by_sum,
    show bigSep (Finset.univ : Finset PUnit.{1}) (fun b => Φ ((Equiv.optionEquivSumPUnit.{0} I).symm (.inr b))) = Φ none from bigSep_singleton]
  exact to_eq Laws.sep_comm.1 Laws.sep_comm.1

/-! ## The kernel's own semaphores -/

/-- All semaphores of the kernel but the barrier's. -/
abbrev osem (i : Fin 60) : SemLoc sig := .dma ⟨1 + i.val, by have := i.isLt; exact Nat.lt_of_lt_of_le (Nat.add_lt_add_left this 1) (by decide)⟩

theorem ownSemFacts : Pipeline.OwnSemFacts cfg0.spec osem := by decide +kernel

/-- What they are for: channels, landing places, copies to the result. -/
def osemIx : (Bool × Ch) ⊕ Fin 4 ⊕ (Fin 4 × Bool) → Fin 60
  | .inl x => ⟨num (some x) - 1, by revert x; decide +kernel⟩
  | .inr (.inl k) => ⟨48 + k.val, by omega⟩
  | .inr (.inr (s, h)) => ⟨52 + 4 * h.toNat + s.val, by revert h s; decide⟩

def osemE : (Bool × Ch) ⊕ Fin 4 ⊕ (Fin 4 × Bool) ≃ Fin 60 :=
  Equiv.ofBijective osemIx ((Fintype.bijective_iff_injective_and_card osemIx).mpr ⟨by decide +kernel, by decide +kernel⟩)

theorem osem_chan (x : Bool × Ch) : osem (osemE (.inl x)) = csem (some x) := by
  revert x; decide +kernel
theorem osem_slot (k : Fin 4) : osem (osemE (.inr (.inl k))) = .dma (semX k) := by
  revert k; decide +kernel
theorem osem_out (s : Fin 4) (h : Bool) : osem (osemE (.inr (.inr (s, h)))) = .dma (semO h s) := by
  revert s h; decide +kernel

/-- The semaphores outside the protocol, at zero. -/
def localSems : sProp 𝕄 :=
  iprop((bigSep Finset.univ fun k : Fin 4 => semVal ((c : Thread nD τ), .dma (semX k)) 0)
    ∗ all fun h s => semVal ((c : Thread nD τ), .dma (semO h s)) 0)

omit [FloatOps F] in
theorem ownSems_eq : (Pipeline.ownSems0 (Ix := Unit) (Name := ℕ) (U := UU) (Lvl := ℕ) (Val := Elt F) (τ := τ) osem c : sProp 𝕄)
    = iprop((bigSep Finset.univ fun x : Bool × Ch => shut c x) ∗ localSems c) := by
  have h2 : (bigSep Finset.univ fun t : Fin 4 × Bool => (semVal ((c : Thread nD τ), osem (osemE (.inr (.inr t)))) 0 : sProp 𝕄))
      = all fun h s => semVal ((c : Thread nD τ), .dma (semO h s)) 0 := by
    rw [bigSep_univ_prod]
    unfold all
    exact bigSep_congr fun s _ => by
      rw [bigSep_univ_eq_bigSepL [false, true] (by decide) (by decide)]
      show iprop(semVal ((c : Thread nD τ), osem (osemE (.inr (.inr (s, false))))) 0 ∗ semVal ((c : Thread nD τ), osem (osemE (.inr (.inr (s, true))))) 0) = _
      rw [osem_out, osem_out]
  unfold Pipeline.ownSems0 localSems
  rw [bigSep_univ_equiv osemE, by_sum, by_sum, h2, bigSep_congr fun x _ => by rw [osem_chan x],
    bigSep_congr (s := (Finset.univ : Finset (Fin 4))) fun k _ => by rw [osem_slot k]]

omit [FloatOps F] in
theorem unscopedSems_eq : (unscopedSems0 c : sProp 𝕄) = semVal (barCell c) 0 := by
  unfold unscopedSems0; rw [bigSep_eq_bigSepL_of_eq [SemLoc.reg barS] (by decide) (by decide)]; rfl

/-! ## The protocol's cells and duties -/

def allCells : Finset (GSem nD τ sig) := Finset.univ.map ⟨kcell, kcell_inj⟩

/-- The duties: the two units of a barrier, and the one credit of every channel cell. -/
def tok (p : Dev nD × (Bool ⊕ (Bool × Ch))) : GSem nD τ sig × ℕ × Bool :=
  match p.2 with
  | .inl d => (kcell (p.1, none), 0, d)
  | .inr x => (kcell (p.1, some x), 0, false)

theorem tok_inj : Function.Injective tok := by
  rintro ⟨c, d | x⟩ ⟨c', d' | x'⟩ h
  · have h1 := kcell_inj (congrArg Prod.fst h)
    have h2 : d = d' := congrArg (fun t : GSem nD τ sig × ℕ × Bool => t.2.2) h
    rw [h2, show c = c' from (Prod.mk.inj h1).1]
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    rw [show c = c' from h1.1, Option.some.inj h1.2]

def allToks : Finset (GSem nD τ sig × ℕ × Bool) := Finset.univ.map ⟨tok, tok_inj⟩

/-- The ghost state at launch: the pipeline's, the protocol's, no local copy. -/
def u₀ : UU :=
  (initOf (Pipeline.cells cfgs cellOf_inj) (Pipeline.launchToks cfgs cellOf_inj), (initOf allCells allToks, 1))

/-- The duties at device `c`'s cells; -/
def minted : sProp 𝕄 :=
  iprop((bigSep Finset.univ fun d : Bool => dutyTok ER (barCell c) 0 d) ∗ bigSep Finset.univ fun x : Bool × Ch => dutyTok ER (kcell (c, some x)) 0 false)
/-- those device `c` discharges. -/
def duties : sProp 𝕄 :=
  iprop(dutyTok ER (barCell (near false c)) 0 false ∗ dutyTok ER (barCell (near true c)) 0 true ∗ bigSep Finset.univ fun ch => toks c ch)

/-- What the launch deals device `c`; -/
def G : sProp 𝕄 :=
  iprop((bigSep Finset.univ fun k : Cell => roundState ER (Rd m) (kcell (c, k)) 0)
    ∗ (bigSep Finset.univ fun k : Cell => atPos ER (kcell (c, k)) 0 ∅ 0) ∗ (bigSep Finset.univ fun k : Cell => reached ER (kcell (c, k)) 0) ∗ minted c)

/-- the invariants; -/
def cells : sProp 𝕄 :=
  bigSep Finset.univ fun p : Dev nD × Cell => iprop(cellInv ER (Rd m) (K p) (kcell p) ∗ reached ER (kcell p) 0)
instance cells_persistent : BI.Persistent (cells m K) := by unfold cells; infer_instance

/-- and what device `c` has once the invariants are there. -/
def own : sProp 𝕄 := iprop(((bigSep Finset.univ fun k : Cell => atPos ER (kcell (c, k)) 0 ∅ 0) ∗ localSems c) ∗ duties c)
def G' : sProp 𝕄 := iprop(∃ K, cells m K ∗ own c)

omit [FloatOps F] in
theorem own_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [by_sum]; rfl
  iintro H
  imod (Rounds.fund ER (Rd m) allCells allToks) $$ H with ⟨Hs, Hr, Ha, Ht⟩
  imodintro
  ihave Hs := (Entails.of_eq (hC fun g => roundState ER (Rd m) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold G
  simp only [bigSep_sep']
  isplitl [Hs]; · iexact Hs
  isplitl [Ha]; · iexact Ha
  isplitl [Hr]; · iexact Hr
  iexact Ht

/-- One device's invariants. -/
theorem alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => reached ER (kcell (c, k)) 0)
          ∗ ((bigSep Finset.univ fun k : Cell => atPos ER (kcell (c, k)) 0 ∅ 0) ∗ localSems c) ∗ minted c) := by
  unfold G
  rw [ownSems_eq, unscopedSems_eq]
  iintro ⟨⟨Hv, Hl⟩, Hb, Hs, Ha, Hr, Ht⟩
  imod (show iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hb Hs] with Hi
  · isplitl [Hv Hb]
    · iapply (Entails.of_eq (by_opt fun k => semVal (kcell (c, k)) 0).symm)
      isplitl [Hb]; · iexact Hb
      iexact Hv
    iexact Hs
  imodintro
  isplitl [Hi]; · iexact Hi
  isplitl [Hr]; · iexact Hr
  isplitl [Ha Hl]
  · isplitl [Ha]; · iexact Ha
    iexact Hl
  iexact Ht

/-- A channel and the device it leads to, as a permutation. -/
def peerE : Dev nD × Ch ≃ Dev nD × Ch :=
  ⟨fun p => (peer p.2 p.1, p.2), fun p => (peer p.2 p.1, p.2), fun p => by simp only [peer_peer], fun p => by simp only [peer_peer]⟩

omit [FloatOps F] in
/-- The duties dealt to those who discharge them. -/
theorem deal : (bigSep Finset.univ fun c : Dev nD => (minted c : sProp 𝕄)) ⊢ bigSep Finset.univ fun c : Dev nD => duties c := by
  have hbar (h : Bool) : (bigSep Finset.univ fun c : Dev nD => (dutyTok ER (barCell c) 0 h : sProp 𝕄))
      = bigSep Finset.univ fun c => dutyTok ER (barCell (near h c)) 0 h := bigSep_univ_equiv (nearE h) _
  have hrecv : (bigSep Finset.univ fun c : Dev nD => bigSep Finset.univ fun ch : Ch => (dutyTok ER (recvCell c ch) 0 false : sProp 𝕄))
      = bigSep Finset.univ fun c => bigSep Finset.univ fun ch => dutyTok ER (recvCell (peer ch c) ch) 0 false := by
    rw [← bigSep_univ_prod (fun p : Dev nD × Ch => (dutyTok ER (recvCell p.1 p.2) 0 false : sProp 𝕄)), bigSep_univ_equiv peerE, bigSep_univ_prod]
    rfl
  have h2 : ∀ c : Dev nD, (minted c : sProp 𝕄) = iprop((dutyTok ER (barCell c) 0 false ∗ dutyTok ER (barCell c) 0 true)
      ∗ (bigSep Finset.univ fun ch : Ch => dutyTok ER (sendCell c ch) 0 false) ∗ bigSep Finset.univ fun ch : Ch => dutyTok ER (recvCell c ch) 0 false) := fun c => by
    unfold minted
    rw [bigSep_univ_prod, bigSep_univ_eq_bigSepL [false, true] (by decide) (by decide), bigSep_univ_eq_bigSepL [false, true] (by decide) (by decide)]
    rfl
  unfold duties toks
  rw [bigSep_congr fun c _ => h2 c]
  simp only [bigSep_sep']
  rw [hbar, hbar, hrecv]
  iintro ⟨⟨A, B⟩, C, D⟩
  isplitl [A]; · iexact A
  isplitl [B]; · iexact B
  isplitl [C]; · iexact C
  iexact D

omit [FloatOps F] in
/-- What may be kept goes to everyone. -/
theorem to_everyone {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']; exact sep_mono_left (BI.bigSep_of_persistent S R)

theorem gather :
    (bigSep Finset.univ fun c : Dev nD => iprop((bigSep Finset.univ fun k : Cell => iprop(∃ κ : ℕ, cellInv ER (Rd m) κ (kcell (c, k))))
          ∗ (bigSep Finset.univ fun k : Cell => reached ER (kcell (c, k)) 0)
          ∗ ((bigSep Finset.univ fun k : Cell => atPos ER (kcell (c, k)) 0 ∅ 0) ∗ localSems c) ∗ minted c) : sProp 𝕄)
      ⊢ bigSep Finset.univ (G' m) := by
  classical
  rw [bigSep_sep', bigSep_sep', bigSep_sep', ← bigSep_univ_prod (fun p : Dev nD × Cell => iprop(∃ κ : ℕ, cellInv ER (Rd m) κ (kcell p))),
    ← bigSep_univ_prod (fun p : Dev nD × Cell => (reached ER (kcell p) 0 : sProp 𝕄))]
  iintro ⟨HI, #HR, Ha, Ht⟩
  ihave HK := (BI.bigSep_exists_pi Finset.univ (fun (p : Dev nD × Cell) (κ : ℕ) => (cellInv ER (Rd m) κ (kcell p) : sProp 𝕄))) $$ HI
  icases HK with ⟨%K, #HI⟩
  ihave Ht := (deal (F := F)) $$ Ht
  iapply ((to_everyone Finset.univ (cells m K) own).trans (bigSep_mono fun c _ => show iprop(cells m K ∗ own c) ⊢ G' m c from by unfold G'; iintro H; iexists K; iexact H))
  isplitr
  · iapply (Entails.of_eq (show cells m K = iprop((bigSep Finset.univ fun p : Dev nD × Cell => cellInv ER (Rd m) (K p) (kcell p))
      ∗ bigSep Finset.univ fun p : Dev nD × Cell => reached ER (kcell p) 0) from bigSep_sep' ..).symm)
    isplitl; · iexact HI
    iexact HR
  iapply (Entails.of_eq (show (bigSep Finset.univ own : sProp 𝕄)
    = iprop((bigSep Finset.univ fun c : Dev nD => iprop((bigSep Finset.univ fun k : Cell => atPos ER (kcell (c, k)) 0 ∅ 0) ∗ localSems c))
      ∗ bigSep Finset.univ duties) from bigSep_sep' ..).symm)
  isplitl [Ha]; · iexact Ha
  iexact Ht

/-- Every device's invariants at once, for all. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (gather m))

/-! ## The credits -/

theorem bar_iff {a b : Dev nD} : barCell a = barCell b ↔ a = b :=
  ⟨fun h => (Prod.mk.inj (kcell_inj (a₁ := (a, none)) (a₂ := (b, none)) h)).1, fun h => h ▸ rfl⟩
theorem recv_iff {a b : Dev nD} {ch ch' : Ch} : recvCell a ch = recvCell b ch' ↔ a = b ∧ ch = ch' :=
  ⟨fun h => by
    have e := Prod.mk.inj (kcell_inj (a₁ := (a, some (true, ch))) (a₂ := (b, some (true, ch'))) h)
    exact ⟨e.1, congrArg Prod.snd (Option.some.inj e.2)⟩, fun h => h.1 ▸ h.2 ▸ rfl⟩
theorem bar_ne_recv (a b : Dev nD) (ch : Ch) : barCell a ≠ recvCell b ch := fun h =>
  absurd (Prod.mk.inj (kcell_inj (a₁ := (a, none)) (a₂ := (b, some (true, ch))) h)).2 (by simp)

theorem owed_bar (d c : Dev nD) : O₀ d (barCell c) () = (if d = near true c then 1 else 0) + (if d = near false c then 1 else 0) := by
  have e : owedFrom d 0 (barCell c) () = 0 := by
    by_contra h
    obtain ⟨ch, -, h'⟩ := owedFrom_pos (Nat.pos_of_ne_zero h)
    exact bar_ne_recv _ _ _ h'
  have b (h : Bool) : (tallyAt (barCell (near h d)) () 1 : CellTallies nD τ sig Unit) (barCell c) () = if d = near h c then 1 else 0 := by
    rw [tallyAt_apply]
    refine if_congr ⟨fun h' => ?_, fun h' => ⟨?_, rfl⟩⟩ rfl rfl
    · rw [bar_iff.mp h'.1, near_near]
    · rw [h', near_near]
  unfold O₀
  rw [Pi.add_apply, Finsupp.add_apply, Pi.add_apply, Finsupp.add_apply, e, b, b, Nat.zero_add]

theorem owed_recv (d c : Dev nD) (ch : Ch) : O₀ d (recvCell c ch) () = if d = peer ch c then N else 0 := by
  have b (h : Bool) : (tallyAt (barCell (near h d)) () 1 : CellTallies nD τ sig Unit) (recvCell c ch) () = 0 := by
    rw [tallyAt_apply]; exact if_neg fun h' => bar_ne_recv _ _ _ h'.1.symm
  unfold O₀ owedFrom
  rw [Pi.add_apply, Finsupp.add_apply, Pi.add_apply, Finsupp.add_apply, b, b, Finset.sum_apply, Finsupp.finsetSum_apply,
    Finset.sum_eq_single (M := ℕ) ch]
  · rw [tallyAt_apply]
    refine if_congr ⟨fun h' => ?_, fun h' => ⟨?_, rfl⟩⟩ rfl rfl
    · rw [(recv_iff.mp h'.1).1, peer_peer]
    · rw [h', peer_peer]
  · intro ch' _ hne
    rw [tallyAt_apply]; exact if_neg fun h' => hne (recv_iff.mp h'.1).2.symm
  · intro h; exact absurd (Finset.mem_filter.mpr ⟨Finset.mem_univ ch, Nat.zero_le (rank ch)⟩) h

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq', Finset.sum_ite_eq', if_pos (Finset.mem_univ _), if_pos (Finset.mem_univ _)]

theorem launch_recv (ch : Ch) :
    tallyOn (recvCell c ch) (launchCredit (Pipeline.owing O₀) 0 (recvCell c ch)) = (tallyAt (recvCell c ch) () N : CellTallies nD τ sig Unit) := by
  unfold tallyAt; refine congrArg _ (Finsupp.ext fun u => ?_); cases u
  rw [Pipeline.launchCredit_owing, Finsupp.single_eq_same, Finset.sum_congr rfl fun d _ => owed_recv d c ch, Finset.sum_ite_eq', if_pos (Finset.mem_univ _)]

/-- The semaphores of the cells others signal. -/
def waitedSem : Option Ch → SemLoc sig := fun x => csem (x.map fun ch => (true, ch))
theorem waitedSem_inj : Function.Injective waitedSem := fun a b h =>
  Option.map_injective (fun _ _ h => congrArg Prod.snd h) (csem_inj h)

omit [FloatOps F] in
theorem creds : (Pipeline.launchCred O₀ c : sProp 𝕄) ⊢ iprop(cred (tallyAt (barCell c) () 2) ∗ bigSep Finset.univ fun ch : Ch => due c (true, ch)) := by
  classical
  unfold Pipeline.launchCred
  refine (bigSep_subset (Finset.subset_univ ((Finset.univ : Finset (Option Ch)).map ⟨waitedSem, waitedSem_inj⟩))).trans ?_
  rw [bigSep_map, by_opt]
  exact BIClass.sep_mono (Entails.of_eq (congrArg cred (launch_bar c))) (bigSep_mono fun ch _ => Entails.of_eq (congrArg cred (launch_recv c ch)))

end Cert.KernelIdeal.Dist

end
-- ==== Proof.Launch.lean ====
/-
# The run of the four devices

The kernel's run on one device, from what the launch hands it to what the launch takes back; then the launch theorem: every
execution ends, with each device's result at `outAt`, its operands unchanged and every semaphore at zero.
-/
module

public import proofs.«01_k».proof.Proof.Ghost
public import Idealize.ShloMosaic.Lib.Pipeline.CollectiveSegs
public import Idealize.ShloMosaic.Lib.Quiescent

@[expose] public section

set_option maxRecDepth 65536

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## One device -/

omit [FloatOps F] in
/-- By channel: what is to send, the duties, the positions. -/
theorem chInit_all : iprop((bigSep Finset.univ fun ch => anyAt c (src ch)) ∗ (bigSep Finset.univ fun ch => toks c ch)
      ∗ (bigSep Finset.univ fun x : Bool × Ch => pos c x) ∗ bigSep Finset.univ fun ch => due c (true, ch))
    ⊢ (bigSep Finset.univ (chInit c) : sProp 𝕄) := by
  have hp : (bigSep Finset.univ fun x : Bool × Ch => (pos c x : sProp 𝕄))
      = iprop((bigSep Finset.univ fun ch : Ch => pos c (false, ch)) ∗ bigSep Finset.univ fun ch : Ch => pos c (true, ch)) := by
    rw [bigSep_univ_prod, bigSep_univ_eq_bigSepL [false, true] (by decide) (by decide)]; rfl
  unfold chInit awaited
  rw [hp, bigSep_sep', bigSep_sep', bigSep_sep', bigSep_sep']
  iintro ⟨A, B, ⟨C, D⟩, E⟩
  isplitl [A]; · iexact A
  isplitl [B]; · iexact B
  isplitl [C]; · iexact C
  isplitl [E]; · iexact E
  iexact D

omit [FloatOps F] in
theorem chPost_all : (bigSep Finset.univ (chPost c) : sProp 𝕄)
    ⊢ iprop((bigSep Finset.univ fun ch => anyAt c (src ch)) ∗ ownLand c ∗ bigSep Finset.univ fun x : Bool × Ch => shut c x) := by
  have hp : (bigSep Finset.univ fun x : Bool × Ch => (shut c x : sProp 𝕄))
      = iprop((bigSep Finset.univ fun ch : Ch => shut c (false, ch)) ∗ bigSep Finset.univ fun ch : Ch => shut c (true, ch)) := by
    rw [bigSep_univ_prod, bigSep_univ_eq_bigSepL [false, true] (by decide) (by decide)]; rfl
  unfold chPost ownLand
  rw [hp, bigSep_sep', bigSep_sep', bigSep_sep']

omit [FloatOps F] in
theorem place_all : (iprop((bigSep Finset.univ fun k : Fin 4 => anyAt c (slot k))
      ∗ bigSep Finset.univ fun k : Fin 4 => semVal ((c : Thread nD τ), .dma (semX k)) 0) : sProp 𝕄)
    = bigSep Finset.univ fun k => place c k := by
  unfold place; rw [bigSep_sep']

theorem blank_all : (iprop(anyAt c oM ∗ all fun h s => semVal ((c : Thread nD τ), .dma (semO h s)) 0) : sProp 𝕄) = all (blank c) := by
  unfold blank; rw [all_sep, any_segO]

theorem written_all : (all (written m c) : sProp 𝕄)
    ⊢ iprop(at' c oM (outAt m c) ∗ all fun h s => semVal ((c : Thread nD τ), .dma (semO h s)) 0) := by
  unfold written; rw [all_sep]; exact sep_mono_left (result_whole m c)

/-- What device `c` starts with; -/
def start : sProp 𝕄 :=
  iprop(G' m c ∗ levAts L lv ∗ (cred (tallyAt (barCell c) () 2) ∗ bigSep Finset.univ fun ch : Ch => due c (true, ch)) ∗ xPts m c ∗ anyAt c oM)
/-- and what of it lasts beyond the kernel. -/
def leave : sProp 𝕄 := iprop((xPts m c ∗ at' c oM (outAt m c)) ∗ unscopedSems0 c)

abbrev scratch : sProp 𝕄 := Pipeline.scopedRest (Ix := Unit) (Name := ℕ) (U := UU) (Lvl := ℕ) (Val := Elt F) cfg0.spec c
abbrev sems0 : sProp 𝕄 := Pipeline.ownSems0 (Ix := Unit) (Name := ℕ) (U := UU) (Lvl := ℕ) (Val := Elt F) (τ := τ) osem c

theorem device_run {Q : PUnit → sProp 𝕄} :
    iprop((start m c ∗ scratch c) ∗ wPts m c ∗ ∃ W, owes (c : Thread nD τ) (O₀ c) W)
      ⊢ iprop((((leave m c ∗ sems0 c ∗ scratch c) ∗ wPts m c ∗ ∃ W, owes (c : Thread nD τ) (0 : CellTallies nD τ sig Unit) W) -∗ Q ⟨⟩)
        -∗ run c body Q) := by
  unfold start leave G' own duties localSems
  rw [by_opt, unscopedSems_eq, show sems0 c = _ from ownSems_eq c, show scratch c = _ from scratch_eq c]
  unfold localSems
  iintro ⟨⟨⟨⟨%K, HC, ⟨⟨Hab, Hap⟩, Hxs, Hos⟩, Ht0, Ht1, Ht⟩, HL, ⟨Hcb, Hdue⟩, Hx, Ho⟩, Hsrc, Hland, Hslot⟩, Hw, HO⟩ Hk
  iapply (body_run m K c) $$ [HC Hab Hap Hxs Hos Ht0 Ht1 Ht HL Hcb Hdue Hx Ho Hsrc Hland Hslot Hw HO]
  · isplitl [HC HL]
    · unfold ctx cells
      isplitl [HC]; · iexact HC
      iexact HL
    isplitl [Hx Hw Hslot Hxs]
    · isplitl [Hx]; · iexact Hx
      isplitl [Hw]; · iexact Hw
      iapply (Entails.of_eq (place_all c))
      isplitl [Hslot]; · iexact Hslot
      iexact Hxs
    isplitl [Ho Hos]
    · iapply (Entails.of_eq (blank_all c))
      isplitl [Ho]; · iexact Ho
      iexact Hos
    isplitl [Hsrc Ht Hap Hdue]
    · iapply (chInit_all c)
      isplitl [Hsrc]; · iexact Hsrc
      isplitl [Ht]; · iexact Ht
      isplitl [Hap]; · iexact Hap
      iexact Hdue
    isplitl [Hland]; · iexact Hland
    isplitl [HO]; · iexact HO
    isplitl [Ht0]; · iexact Ht0
    isplitl [Ht1]; · iexact Ht1
    isplitl [Hcb]; · iexact Hcb
    iexact Hab
  iintro ⟨⟨Hx, Hw, Hp⟩, Ho, Hch, Hb, HO⟩
  ihave Ho := (written_all m c) $$ Ho
  icases Ho with ⟨Ho, Hos⟩
  ihave Hch := (chPost_all c) $$ Hch
  icases Hch with ⟨Hsrc, Hland, Hsh⟩
  ihave Hp := (Entails.of_eq (place_all c).symm) $$ Hp
  icases Hp with ⟨Hslot, Hxs⟩
  iapply Hk
  isplitl [Hx Ho Hb Hos Hsrc Hland Hsh Hslot Hxs]
  · isplitl [Hx Ho Hb]
    · isplitl [Hx Ho]
      · isplitl [Hx]; · iexact Hx
        iexact Ho
      iexact Hb
    isplitl [Hsh Hxs Hos]
    · isplitl [Hsh]; · iexact Hsh
      isplitl [Hxs]; · iexact Hxs
      iexact Hos
    isplitl [Hsrc]; · iexact Hsrc
    isplitl [Hland]; · iexact Hland
    iexact Hslot
  isplitl [Hw]; · iexact Hw
  iexact HO

/-! ## The launch's data -/

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wstg m c
  Φ t := match t with
    | ⟨0, _⟩ => iprop(start m c ∗ scratch c)
    | ⟨_ + 1, _⟩ => iprop(leave m c ∗ sems0 c ∗ scratch c)
  q _ := fullShare
  owed t := match t with
    | ⟨0, _⟩ => O₀ c
    | ⟨_ + 1, _⟩ => 0

theorem body_obligation : BodyObligation (dats (F := F) m ρ 0 c) (defs₀ (F := F)) 𝒱₀ () Set.univ := fun t => by
  have hst : ∀ X, (owns (c : Thread nD τ) (Memref.whole cc0_stg0_0) fullShare X : sProp 𝕄) = at' c wM X := fun _ => rfl
  have hbefore : ∀ d, (dats (F := F) m ρ 0 c).before (0 : Fin 1) t0_0 d = wstg m c := fun d => by
    unfold Dat.before; rw [if_pos (fetch0_0 t0_0)]; rfl
  rw [fin_N0 t, bigSep_W0, bigSep_W0]
  show iprop(iprop(start m c ∗ scratch c) ∗ (dats m ρ 0 c).owesAt () t0_0.castSucc
      ∗ ∃ d, owns (c : Thread nD τ) (Memref.whole cc0_stg0_0) fullShare ((dats m ρ 0 c).before (0 : Fin 1) t0_0 d))
    ⊢ run c (bodyAt0 t0_0) fun _ => iprop(iprop(leave m c ∗ sems0 c ∗ scratch c) ∗ (dats m ρ 0 c).owesAt () t0_0.succ
      ∗ owns (c : Thread nD τ) (Memref.whole cc0_stg0_0) fullShare (wstg m c))
  rw [show bodyAt0 (F := F) t0_0 = body from body_eq]
  iintro ⟨Hs, Ho, ⟨%d, Hw⟩⟩
  unfold Dat.owesAt Pipeline.owesWithin
  icases Ho with ⟨%W, %hW, HO⟩
  iapply (device_run m c) $$ [Hs Hw HO]
  · isplitl [Hs]; · iexact Hs
    isplitl [Hw]
    · iapply (Entails.of_eq (show owns (c : Thread nD τ) (Memref.whole cc0_stg0_0) fullShare ((dats m ρ 0 c).before (0 : Fin 1) t0_0 d) = wPts m c from by
        rw [hbefore]; rfl)) $$ Hw
    iexists W; iexact HO
  iintro ⟨Hf, Hw, ⟨%W', HO⟩⟩
  isplitl [Hf]; · iexact Hf
  isplitl [HO]
  · iexists W'
    isplitr; · ipureintro; exact fun _ _ => Or.inl trivial
    iexact HO
  iapply (show wPts m c ⊢ owns (c : Thread nD τ) (Memref.whole cc0_stg0_0) fullShare (wstg m c) from BI.Entails.refl _) $$ Hw

theorem share_eq (w : Fin cfg0.W) : (dats m ρ 0 c).share w = fullShare := by unfold Dat.share; split <;> rfl

/-- The pipeline's waits are at level zero, below all that is owed. -/
theorem waits : (levAts L lv : sProp 𝕄) ⊢ Pipeline.cellsWaits cfgs (dats m ρ) () 0 c :=
  Pipeline.cellsWaits_intro cfgs (dats m ρ) () 0 c fun w s t => by
    have h0 : ∀ q : DmaSem sig, q.val = 0 → (levAts L lv : sProp 𝕄) ⊢ MayWait (c : Thread nD τ) (.dma q) () (O₀ c) := fun q hq =>
      MayOwe.of_cut (L := L) (lev := lv) 0 (fun p hp => by rw [Finset.mem_singleton.mp hp, L_tc]; exact Finset.mem_singleton_self _)
        (fun g u hg => by rcases O₀_pos hg with ⟨d, rfl⟩ | ⟨d, ch, rfl⟩ <;> exact Finset.mem_singleton_self _)
        (fun p hp => by rw [Finset.mem_singleton.mp hp]; exact Nat.le_of_eq (dec_other q (.inl hq)))
        (fun g u hg => by
          rcases O₀_pos hg with ⟨d, rfl⟩ | ⟨d, ch, rfl⟩
          · rw [show barCell d = kcell (d, none) from rfl, lv_kcell]; exact Nat.zero_lt_one
          · rw [show recvCell d ch = kcell (d, some (true, ch)) from rfl, lv_kcell]
            exact Nat.lt_of_lt_of_le Nat.zero_lt_two (recv_lv ch).1)
    rcases t with ⟨_ | _, ht⟩
    · exact h0 _ (by fin_cases w <;> fin_cases s <;> decide)
    · show (levAts L lv : sProp 𝕄) ⊢ MayWait _ _ _ 0
      rw [MayWait_zero]; iintro -; iempintro

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, HL, Hcr, -, HG⟩
  ihave Hcr := (creds (F := F) c) $$ Hcr
  imodintro
  unfold start
  isplitl
  · isplitl [HG]; · iexact HG
    isplitl [HL]; · iexact HL
    isplitl [Hcr]; · iexact Hcr
    isplitl [Hx]; · unfold xPts; iexact Hx
    iapply (Entails.of_eq (whole_any c main_v1))
    iexists _; iexact Ho
  · iempintro

/-! ## The run -/

/-- The final memory at device `c`. -/
def Ends (s : MemSt nD τ sig (Elt F)) : Prop :=
  s.mem ((c : Thread nD τ).loc main_v1) = outAt m c
    ∧ s.mem ((c : Thread nD τ).loc main_arg0) = m ((c : Thread nD τ).loc main_arg0)
    ∧ s.mem ((c : Thread nD τ).loc main_arg1) = m ((c : Thread nD τ).loc main_arg1)

theorem leave_read (s : Phys nD τ sig (Elt F)) :
    iprop(leave m c ∗ emp ∗ SI s)
      ⊢ |={Set.univ}=> iprop(⌜(s.mem.mem ((c : Thread nD τ).loc main_v1) = outAt m c ∧ s.mem.mem ((c : Thread nD τ).loc main_arg0) = m ((c : Thread nD τ).loc main_arg0))
          ∧ ∀ sm : SemLoc sig, sm.isScoped .tc = false → s.mem.sem ((c : Thread nD τ), sm) = 0⌝ ∗ SI s) := by
  unfold leave
  iintro ⟨⟨⟨Hx, Ho⟩, Hu⟩, -, HS⟩
  unfold xPts
  ihave %hx := (SI_pointsTo_agree (st := s)) $$ [HS Hx]
  · isplitl [HS] <;> iassumption
  ihave Ho := (Entails.of_eq (owns_whole (c : Thread nD τ) main_v1 fullShare (outAt m c))) $$ Ho
  ihave %ho := (SI_pointsTo_agree (st := s)) $$ [HS Ho]
  · isplitl [HS] <;> iassumption
  imod (Pipeline.unscopedSems0_read (X := unscopedSems0 c) (c := c) fupd_intro s) $$ [Hu HS] with ⟨%hu, HS⟩
  · isplitl [Hu] <;> iassumption
  imodintro
  isplitr
  · ipureintro
    exact ⟨⟨funext fun i => ho i (Finset.mem_univ i), funext fun i => hx i (Finset.mem_univ i)⟩, hu⟩
  iexact HS

theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ)
    (hin := fun c => by
      show iprop(start m c ∗ _ ∗ scratch c) ⊢ iprop(start m c ∗ scratch c)
      iintro ⟨A, -, B⟩
      isplitl [A]; · iexact A
      iexact B)
    (hout := fun c => BI.Entails.refl _)
    (QY := fun c s => (s.mem ((c : Thread nD τ).loc main_v1) = outAt m c ∧ s.mem ((c : Thread nD τ).loc main_arg0) = m ((c : Thread nD τ).loc main_arg0))
      ∧ ∀ sm : SemLoc sig, sm.isScoped .tc = false → s.sem ((c : Thread nD τ), sm) = 0)
    (hY := fun c s => leave_read m c s)
    (hQ := fun s h hs => ⟨fun c => ⟨(h c).2.2.1.1, (h c).2.2.1.2, ((h c).1 (0 : Fin 1)).trans ((dats m ρ 0 c).arrAt_in (0 : Fin 1) rfl _)⟩,
      sem_eq_zero hs fun c => (h c).2.2.2⟩)

end Cert.KernelIdeal.Dist

end
-- ==== Proof.Values.lean ====
/-
# The values

Over the ideal floats, a device's result is its block of rows of the reference's result. Write `X` for the whole left
operand and `W` for the whole right one: device `d` has the columns `1024 d …` of `X` and the rows `1024 d …` of `W`.
So its product for chunk `c` is the part of the reference's sum over those 1024 of the 4096 contracted places, and what
device `c` adds up is one such product from each of the four devices.
-/
module

public import proofs.«01_k».proof.Proof.Launch
public import proofs.«01_k».proof.ReferenceIdeal
public import proofs.«01_k».proof.Proof.Gen.ReferenceIdeal
public import Idealize.ShloMosaic.Lib.MatmulPlain
public import Idealize.ShloMosaic.Lib.StackMember
public import Idealize.ShloMosaic.Lib.Layout

@[expose] public section

set_option maxRecDepth 65536

noncomputable section

namespace Cert.KernelIdeal.Dist

open Idealize.ShloMosaic Idealize.ShloMosaic.TcCoe
open Idealize.ShloMosaic.ValueIdx Idealize.ShloMosaic.StackMember
open Cert.KernelIdeal Cert.KernelIdeal.Gen

/-! ## Where a device's data lie in the whole arrays -/

/-- The place among the 4096 contracted ones that device `d` has as its place `k`; -/
def at4 (d : Dev nD) (k : Fin 1024) : Fin 4096 := ⟨1024 * d.val + k.val, by have : d.val < 4 := d.isLt; omega⟩

/-- the row of a device's result that is row `a` of segment `s`, -/
def rowS (s : Fin 4) (a : Fin 256) : Fin 1024 := ⟨256 * s.val + a.val, by omega⟩

/-- and the column that is column `b` of half `h`. -/
def colH (h : Bool) (b : Fin 1024) : Fin 2048 := ⟨1024 * h.toNat + b.val, by cases h <;> simp <;> omega⟩

/-- Every contracted place is some device's. -/
theorem sum_at4 (f : Fin 4096 → EReal) : ∑ d : Dev nD, ∑ k : Fin 1024, f (at4 d k) = ∑ K : Fin 4096, f K := by
  rw [← Fintype.sum_prod_type' (f := fun (d : Dev nD) (k : Fin 1024) => f (at4 d k))]
  refine Fintype.sum_equiv (finProdFinEquiv (m := 4) (n := 1024)) _ _ fun t => congrArg f (Fin.ext ?_)
  show 1024 * t.1.val + t.2.val = t.2.val + 1024 * t.1.val
  omega

/-- A device, its two neighbours and the far one are all four. -/
theorem sum_devs (f : Dev nD → EReal) (h : Bool) (c : Dev nD) :
    (f c + f (near h c)) + (f (near (!h) c) + f (far c)) = ∑ d, f d := by
  have four : ∀ (h : Bool) (c : Dev nD), (Finset.univ : Finset (Dev nD)) = {c, near h c, near (!h) c, far c}
      ∧ c ∉ ({near h c, near (!h) c, far c} : Finset (Dev nD)) ∧ near h c ∉ ({near (!h) c, far c} : Finset (Dev nD))
      ∧ near (!h) c ∉ ({far c} : Finset (Dev nD)) := by decide
  obtain ⟨e, h1, h2, h3⟩ := four h c
  rw [e, Finset.sum_insert h1, Finset.sum_insert h2, Finset.sum_insert h3, Finset.sum_singleton, add_assoc]

variable (m : (ℓ : Loc nD τ sig) → Buf (Elt Ideal) ℓ)

theorem chunk_apply (d r : Dev nD) (s : Fin 4) (a : Fin 256) (k : Fin 1024) :
    chunk m d r s (ix2 a k) = m ((d : Thread nD τ).loc main_arg0) (ix2 (at4 r (rowS s a)) k) := by
  refine congrArg (m ((d : Thread nD τ).loc main_arg0)) ?_
  funext b
  apply Fin.ext
  show k0_off4 r (BitVec.ofNat 32 (256 * s.val)) b + 1 * (ix2 a k b).val = _
  rw [k0_off4_eq]
  match b with
  | 0 => show 1024 * r.val + 256 * s.val + 1 * a.val = 1024 * r.val + (256 * s.val + a.val); omega
  | 1 => show 0 + 1 * k.val = k.val; omega

theorem wHalf_apply (d : Dev nD) (h : Bool) (k : Fin 1024) (b : Fin 1024) :
    wHalf m d h (ix2 k b) = m ((d : Thread nD τ).loc main_arg1) (ix2 k (colH h b)) := by
  refine congrArg (m ((d : Thread nD τ).loc main_arg1)) ?_
  funext t
  apply Fin.ext
  match t with
  | 0 => show 0 * 1024 + 1 * (0 + 1 * k.val) = k.val; omega
  | 1 => show 0 * 2048 + 1 * (1024 * h.toNat + 1 * b.val) = 1024 * h.toNat + b.val; omega

theorem rectO_emb (h : Bool) (s : Fin 4) (a : Fin 256) (b : Fin 1024) :
    (rectO h s).emb (ix2 a b) = ix2 (rowS s a) (colH h b) := by
  funext t
  apply Fin.ext
  match t with
  | 0 => show 256 * s.val + 1 * a.val = 256 * s.val + a.val; omega
  | 1 => show 1024 * h.toNat + 1 * b.val = 1024 * h.toNat + b.val; omega

/-! ## The two products -/

theorem dot_plain : dot_S256x1024_S1024x1024_S256x1024_1_0_0_1_n_n = DotDims.plain 256 1024 1024 := rfl

theorem dot_apply (x : Vec Ideal S256x1024 .f32) (w : Vec Ideal S1024x1024 .f32) (a : Fin 256) (b : Fin 1024) :
    dot x w (ix2 a b) = ∑ k : Fin 1024, x (ix2 a k) * w (ix2 k b) := by
  unfold dot
  rw [dot_plain]
  refine (Ideal.matmul_plain_apply none x w _ a b).trans ?_
  rw [constant_apply]
  refine (congrArg (· + _) Ideal.ofBits_zero_f32).trans (zero_add _)

theorem hostDot_plain : Cert.ReferenceIdeal.dot_S4096x4096_S4096x2048_S4096x2048_1_0_0_1_n_n = DotDims.plain 4096 4096 2048 := rfl

/-! ## A device's result -/

variable (X : FVec Ideal ⟨2, ![4096, 4096]⟩ .f32) (W : FVec Ideal ⟨2, ![4096, 2048]⟩ .f32)

/-- The devices' operands are their blocks of the whole ones. -/
structure Blocks : Prop where
  left (d : Dev nD) : m ((d : Thread nD τ).loc main_arg0) = Layout.block ⟨2, ![4096, 1024]⟩ ⟨2, ![4096, 4096]⟩ 1 4 d X
  right (d : Dev nD) : m ((d : Thread nD τ).loc main_arg1) = Layout.block ⟨2, ![1024, 2048]⟩ ⟨2, ![4096, 2048]⟩ 0 4 d W

/-- The reference's result. -/
def whole : FVec Ideal ⟨2, ![4096, 2048]⟩ .f32 :=
  maximumf (Host.dotGeneral Cert.ReferenceIdeal.dot_S4096x4096_S4096x2048_S4096x2048_1_0_0_1_n_n none X W)
    (broadcastInDim Cert.ReferenceIdeal.S4096x2048 ![] Cert.ReferenceIdeal.Facts₀.bcast_S_S4096x2048
      (constant Cert.ReferenceIdeal.S_ .f32 0x00000000#32))

variable {m X W}

theorem part_apply (B : Blocks m X W) (d r : Dev nD) (h : Bool) (s : Fin 4) (a : Fin 256) (b : Fin 1024) :
    part m d r h s (ix2 a b) = ∑ k : Fin 1024, X (ix2 (at4 r (rowS s a)) (at4 d k)) * W (ix2 (at4 d k) (colH h b)) := by
  unfold part
  rw [dot_apply]
  refine Finset.sum_congr rfl fun k _ => ?_
  rw [chunk_apply, wHalf_apply, B.left, B.right, Layout.block_apply, Layout.block_apply]
  congr 1
  · refine congrArg X ?_
    funext t
    apply Fin.ext
    match t with
    | 0 => rfl
    | 1 => show d.val * 1024 + k.val = 1024 * d.val + k.val; omega
  · refine congrArg W ?_
    funext t
    apply Fin.ext
    match t with
    | 0 => show d.val * 1024 + k.val = 1024 * d.val + k.val; omega
    | 1 => rfl

theorem far_far : ∀ c : Dev nD, far (far c) = c := by decide

variable (m) in
/-- What a device adds up is one product for its chunk from each device. -/
theorem fin_apply (c : Dev nD) (h : Bool) (s : Fin 4) (j : S256x1024.Idx) :
    fin m c h s j = max (∑ d : Dev nD, part m d c h s j) (Ideal.ofBits .f32 0x00000000#32) := by
  have e1 : val m (near h c) (h, some 0, s) = part m (near h c) c h s :=
    (show _ = part m (near h c) (near h (near h c)) h s from rfl).trans (by rw [near_near])
  have ef : far (far c) = c := far_far c
  have e2 : val m (near (!h) c) (h, none, s) = addf (part m (near (!h) c) c h s) (part m (far c) c h s) := by
    have e3 : near h (near (!h) c) = far c := by have := near_not_near (!h) c; rwa [Bool.not_not] at this
    refine (show _ = addf (part m (near (!h) c) (near (!h) (near (!h) c)) h s)
      (part m (near h (near (!h) c)) (far (near h (near (!h) c))) h s) from rfl).trans ?_
    rw [near_near, e3, ef]
  unfold fin
  rw [e1, e2]
  exact congrArg (max · _) (sum_devs (fun d => part m d c h s j) h c)

theorem whole_apply (R : Fin 4096) (C : Fin 2048) :
    whole X W (ix2 R C) = max (∑ K : Fin 4096, X (ix2 R K) * W (ix2 K C)) (Ideal.ofBits .f32 0x00000000#32) := by
  unfold whole
  rw [hostDot_plain]
  exact congrArg (max · _) (dotGeneral_plain_apply none X W R C)

/-- Every place of a result is in one of its segments. -/
theorem split_idx (i : S1024x2048.Idx) :
    ∃ (h : Bool) (s : Fin 4) (a : Fin 256) (b : Fin 1024), i = ix2 (rowS s a) (colH h b) := by
  have h0 : (i 0).val < 1024 := (i 0).isLt
  have h1 : (i 1).val < 2048 := (i 1).isLt
  have put : ∀ (h : Bool) (b : Fin 1024), 1024 * h.toNat + b.val = (i 1).val →
      i = ix2 (rowS ⟨(i 0).val / 256, by omega⟩ ⟨(i 0).val % 256, by omega⟩) (colH h b) := fun h b e => by
    funext t
    apply Fin.ext
    match t with
    | 0 => exact (Nat.div_add_mod (i 0).val 256).symm
    | 1 => exact e.symm
  by_cases lo : (i 1).val < 1024
  · exact ⟨false, _, _, ⟨(i 1).val, lo⟩, put false _ (by simp)⟩
  · exact ⟨true, _, _, ⟨(i 1).val - 1024, by omega⟩, put true _ (by simp; omega)⟩

/-- A device's result is its block of rows of the reference's. -/
theorem outAt_block (B : Blocks m X W) (c : Dev nD) :
    outAt m c = Layout.block ⟨2, ![1024, 2048]⟩ ⟨2, ![4096, 2048]⟩ 0 4 c (whole X W) := by
  funext i
  obtain ⟨h, s, a, b, rfl⟩ := split_idx i
  have there : (Layout.block ⟨2, ![1024, 2048]⟩ ⟨2, ![4096, 2048]⟩ 0 4 c (whole X W)) (ix2 (rowS s a) (colH h b))
      = whole X W (ix2 (at4 c (rowS s a)) (colH h b)) := by
    rw [Layout.block_apply]
    refine congrArg (whole X W) ?_
    funext t
    apply Fin.ext
    match t with
    | 0 => show c.val * 1024 + (rowS s a).val = 1024 * c.val + (rowS s a).val; omega
    | 1 => rfl
  refine (congrArg (outAt m c) (rectO_emb h s a b).symm).trans ((outAt_emb m c h s (ix2 a b)).trans ?_)
  rw [there, fin_apply, whole_apply]
  refine congrArg (max · _) (Eq.trans (Finset.sum_congr rfl fun d _ => part_apply B d c h s a b) ?_)
  exact sum_at4 fun K => X (ix2 (at4 c (rowS s a)) K) * W (ix2 K (colH h b))

end Cert.KernelIdeal.Dist
end
-- ==== Proof.lean ====
/-
# The proof of the claims

The kernel's runs are one theorem, over any float values, of the module read either way; the reference's run is its four operations'.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

set_option maxRecDepth 65536

noncomputable section

namespace Cert.Proof

open Idealize.ShloMosaic Idealize.SL.Sem

/-- What the frames say of a kernel's final state, of its run. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Dist.run_main (F := F) m ρ)

/-- The kernel read either way has one body, -/
theorem bodies : Cert.Kernel.defs₀ (F := Bits) = Cert.KernelIdeal.defs₀ := by
  refine congrArg Defs.onTc (funext fun l => funext fun x => ?_)
  match l, x with
  | 0, (t, s) => rfl
/-- and one launch of it. -/
theorem tables : Cert.Kernel.defs (F := Bits) = Cert.KernelIdeal.defs := congrArg (Pipeline.defs Cert.KernelIdeal.pcfgs) bodies

theorem frame_kernel : Cert.quiescent_Kernel := fun m ρ _ => by rw [tables]; exact kernel_run (F := Bits) m ρ

theorem frame_kernelIdeal : Cert.quiescent_KernelIdeal := fun m ρ _ => kernel_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- Each device ends with its block of rows of what the reference computes. -/
theorem algebraic : Cert.algebraic_KernelIdeal_ReferenceIdeal := fun m g m' g' _ cut =>
  ⟨Cert.KernelIdeal.Dist.whole _ _,
    (θ_run Cert.KernelIdeal.defs _ _).mono
      (fun _ h c => ⟨(h.1 c).1.trans (Cert.KernelIdeal.Dist.outAt_block ⟨fun d => (cut d).1, fun d => (cut d).2⟩ c), (h.1 c).2⟩)
      (Cert.KernelIdeal.Dist.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
